-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "far" .f32 0x5368D4A5#32 ⊤

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S1x4096x1024 : Shape := ⟨3, ![1, 4096, 1024]⟩
abbrev S16x1024x64 : Shape := ⟨3, ![16, 1024, 64]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16x64 : Shape := ⟨2, ![16, 64]⟩
abbrev S1024x1024 : Shape := ⟨2, ![1024, 1024]⟩
abbrev S16x64x16 : Shape := ⟨3, ![16, 64, 16]⟩
abbrev S16x16x64 : Shape := ⟨3, ![16, 16, 64]⟩
abbrev S_ : Shape := ⟨0, ![]⟩

class Facts : Prop where
  bcast_S_S1x4096x1024 : S_.BroadcastsInDim S1x4096x1024 (![] : Fin 0 → Fin S1x4096x1024.rank)
  bcast_S_S16x1024x64 : S_.BroadcastsInDim S16x1024x64 (![] : Fin 0 → Fin S16x1024x64.rank)
  bcast_S_S512x1024 : S_.BroadcastsInDim S512x1024 (![] : Fin 0 → Fin S512x1024.rank)
  bcast_S_S512 : S_.BroadcastsInDim S512 (![] : Fin 0 → Fin S512.rank)
  bcast_S_S1024x512 : S_.BroadcastsInDim S1024x512 (![] : Fin 0 → Fin S1024x512.rank)
  bcast_S_S1024 : S_.BroadcastsInDim S1024 (![] : Fin 0 → Fin S1024.rank)
  bcast_S_S16x64 : S_.BroadcastsInDim S16x64 (![] : Fin 0 → Fin S16x64.rank)

variable [Facts]

def fn_part1 {F : FTy → Type} [FloatOps F] (main_arg7 : FVec F S16x64 .f32) (main_v2 : IVec S1x4096x1024 1) (main_v5 : IVec S16x1024x64 1) (main_v8 : IVec S512x1024 1) (main_v11 : IVec S512 1) (main_v14 : IVec S1024x512 1) (main_v17 : IVec S1024 1) : IVec S1x4096x1024 1 × IVec S16x1024x64 1 × IVec S512x1024 1 × IVec S512 1 × IVec S1024x512 1 × IVec S1024 1 × IVec S16x64 1 :=
  let main_v18 : FVec F S16x64 .f32 := Host.absf main_arg7
  let main_cst_5 : FVec F S_ .f32 := constant S_ .f32 0x7F800000#32
  let main_v19 : FVec F S16x64 .f32 := broadcastInDim S16x64 ![] bcast_S_S16x64 main_cst_5
  let main_v20 : IVec S16x64 1 := cmpf .olt main_v18 main_v19
  (main_v2, main_v5, main_v8, main_v11, main_v14, main_v17, main_v20)

def fn {F : FTy → Type} [FloatOps F] (main_arg0 : FVec F S1x4096x1024 .f32) (main_arg1 : FVec F S16x1024x64 .f32) (main_arg2 : FVec F S16x1024x64 .f32) (main_arg3 : FVec F S512x1024 .f32) (main_arg4 : FVec F S512 .f32) (main_arg5 : FVec F S1024x512 .f32) (main_arg6 : FVec F S1024 .f32) (main_arg7 : FVec F S16x64 .f32) (main_arg8 : FVec F S1024x1024 .f32) (main_arg9 : FVec F S16x64x16 .f32) (main_arg10 : FVec F S16x16x64 .f32) : IVec S1x4096x1024 1 × IVec S16x1024x64 1 × IVec S512x1024 1 × IVec S512 1 × IVec S1024x512 1 × IVec S1024 1 × IVec S16x64 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S16x1024x64 .f32 := Host.absf main_arg1
  let main_cst_0 : FVec F S_ .f32 := constant S_ .f32 0x7F800000#32
  let main_v4 : FVec F S16x1024x64 .f32 := broadcastInDim S16x1024x64 ![] bcast_S_S16x1024x64 main_cst_0
  let main_v5 : IVec S16x1024x64 1 := cmpf .olt main_v3 main_v4
  let main_v6 : FVec F S512x1024 .f32 := Host.absf main_arg3
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg7 main_v2 main_v5 main_v8 main_v11 main_v14 main_v17
-- ==== Kernel.lean ====
abbrev S1x4096x1024 : Shape := ⟨3, ![1, 4096, 1024]⟩
abbrev S16x1024x64 : Shape := ⟨3, ![16, 1024, 64]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16x64 : Shape := ⟨2, ![16, 64]⟩
abbrev S1024x1024 : Shape := ⟨2, ![1024, 1024]⟩
abbrev S16x64x16 : Shape := ⟨3, ![16, 64, 16]⟩
abbrev S16x16x64 : Shape := ⟨3, ![16, 16, 64]⟩
abbrev S4096x1024 : Shape := ⟨2, ![4096, 1024]⟩
abbrev S16x4096x64 : Shape := ⟨3, ![16, 4096, 64]⟩
abbrev S16x1x64 : Shape := ⟨3, ![16, 1, 64]⟩
abbrev S1x1024 : Shape := ⟨2, ![1, 1024]⟩
abbrev S1x512 : Shape := ⟨2, ![1, 512]⟩
abbrev S1x1024x64 : Shape := ⟨3, ![1, 1024, 64]⟩
abbrev S1x4096x64 : Shape := ⟨3, ![1, 4096, 64]⟩
abbrev S1x1x64 : Shape := ⟨3, ![1, 1, 64]⟩
abbrev S1024x64 : Shape := ⟨2, ![1024, 64]⟩
abbrev S4096x64 : Shape := ⟨2, ![4096, 64]⟩
abbrev S4096x1 : Shape := ⟨2, ![4096, 1]⟩
abbrev S64 : Shape := ⟨1, ![64]⟩
abbrev S1x64 : Shape := ⟨2, ![1, 64]⟩
abbrev S1x64x64 : Shape := ⟨3, ![1, 64, 64]⟩
abbrev S1x64x16 : Shape := ⟨3, ![1, 64, 16]⟩
abbrev S1x16x64 : Shape := ⟨3, ![1, 16, 64]⟩
abbrev S64x1024 : Shape := ⟨2, ![64, 1024]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S64x1 : Shape := ⟨2, ![64, 1]⟩
abbrev S1x128 : Shape := ⟨2, ![1, 128]⟩
abbrev S64x16 : Shape := ⟨2, ![64, 16]⟩

abbrev nBuf : Space → Nat
  | .hbm => 27
  | .vmem => 37
  | .smem => 0
  | _ => 0

abbrev bufTy : (tb : Table) → Fin (tcTables nBuf tb) → BufTy
  | .hbm, ⟨0, _⟩ => ⟨S1x4096x1024, .f32⟩
  | .hbm, ⟨1, _⟩ => ⟨S16x1024x64, .f32⟩
  | .hbm, ⟨2, _⟩ => ⟨S16x1024x64, .f32⟩
  | .hbm, ⟨3, _⟩ => ⟨S512x1024, .f32⟩
  | .hbm, ⟨4, _⟩ => ⟨S512, .f32⟩
  | .hbm, ⟨5, _⟩ => ⟨S1024x512, .f32⟩
  | .hbm, ⟨6, _⟩ => ⟨S1024, .f32⟩
  | .hbm, ⟨7, _⟩ => ⟨S16x64, .f32⟩
  | .hbm, ⟨8, _⟩ => ⟨S1024x1024, .f32⟩
  | .hbm, ⟨9, _⟩ => ⟨S16x64x16, .f32⟩
  | .hbm, ⟨10, _⟩ => ⟨S16x16x64, .f32⟩
  | .hbm, ⟨11, _⟩ => ⟨S4096x1024, .f32⟩
  | .hbm, ⟨12, _⟩ => ⟨S16x4096x64, .f32⟩
  | .hbm, ⟨13, _⟩ => ⟨S16x4096x64, .f32⟩
  | .hbm, ⟨14, _⟩ => ⟨S16x1x64, .f32⟩
  | .hbm, ⟨15, _⟩ => ⟨S16x1x64, .f32⟩
  | .hbm, ⟨16, _⟩ => ⟨S1x1024, .f32⟩
  | .hbm, ⟨17, _⟩ => ⟨S1x1024, .f32⟩
  | .hbm, ⟨18, _⟩ => ⟨S1024x512, .f32⟩
  | .hbm, ⟨19, _⟩ => ⟨S1x512, .f32⟩
  | .hbm, ⟨20, _⟩ => ⟨S512x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16x64, .f32⟩
  | .hbm, ⟨25, _⟩ => ⟨S4096x1024, .f32⟩
  | .hbm, ⟨26, _⟩ => ⟨S1x4096x1024, .f32⟩
  | .local _ .vmem, ⟨0, _⟩ => ⟨S4096x1024, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | .local _ .vmem, ⟨8, _⟩ => ⟨S1x4096x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1024, .f32⟩
  | .local _ .vmem, ⟨14, _⟩ => ⟨S1x1024, .f32⟩
  | .local _ .vmem, ⟨15, _⟩ => ⟨S1024x512, .f32⟩
  | .local _ .vmem, ⟨16, _⟩ => ⟨S1x512, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x64x64, .f32⟩
  | .local _ .vmem, ⟨22, _⟩ => ⟨S1x64x64, .f32⟩
  | .local _ .vmem, ⟨23, _⟩ => ⟨S1x64x64, .f32⟩
  | .local _ .vmem, ⟨24, _⟩ => ⟨S1x64x64, .f32⟩
  | .local _ .vmem, ⟨25, _⟩ => ⟨S1x64x64, .f32⟩
  | .local _ .vmem, ⟨26, _⟩ => ⟨S1x64x64, .f32⟩
  | .local _ .vmem, ⟨27, _⟩ => ⟨S1x64x64, .f32⟩
  | .local _ .vmem, ⟨28, _⟩ => ⟨S1x64x64, .f32⟩
  | .local _ .vmem, ⟨29, _⟩ => ⟨S16x64, .f32⟩
  | .local _ .vmem, ⟨30, _⟩ => ⟨S1x64x16, .f32⟩
  | .local _ .vmem, ⟨31, _⟩ => ⟨S1x64x16, .f32⟩
  | .local _ .vmem, ⟨32, _⟩ => ⟨S1x16x64, .f32⟩
  | .local _ .vmem, ⟨33, _⟩ => ⟨S1x16x64, .f32⟩
  | .local _ .vmem, ⟨34, _⟩ => ⟨S1024x1024, .f32⟩
  | .local _ .vmem, ⟨35, _⟩ => ⟨S64x1024, .f32⟩
  | .local _ .vmem, ⟨36, _⟩ => ⟨S64x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1_0 : Ref sig .tc := ⟨.hbm, 12, rfl⟩
abbrev main_call0_v1_1 : Ref sig .tc := ⟨.hbm, 13, rfl⟩
abbrev main_call0_v1_2 : Ref sig .tc := ⟨.hbm, 14, rfl⟩
abbrev main_call0_v1_3 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v0 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg8_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem8_0 : DmaSem sig := 35
abbrev cc2_sem8_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨2, ![64, 16], ![false, false]⟩

def k2_off1 (i : grid2.Coords) : Fin 2 → Nat :=
  let arg1 : BitVec 32 := BitVec.ofNat 32 (i 1).val
  let v5 : Index := Scalar.indexCast arg1
  let c0_5 : Index := 0#32
  ![v5.toNat, 0]
def k2_off2 (i : grid2.Coords) : Fin 2 → Nat :=
  let arg1 : BitVec 32 := BitVec.ofNat 32 (i 1).val
  let c64_i32_49 : BitVec 32 := 64#32
  let v505 : BitVec 32 := Scalar.muli arg1 c64_i32_49
  let v506 : Index := Scalar.indexCast v505
  let c0_50 : Index := 0#32
  ![v506.toNat, 0]
def k2_cond1 (i : grid2.Coords) : BitVec 1 :=
  let arg1 : BitVec 32 := BitVec.ofNat 32 (i 1).val
  let c0_i32_52 : BitVec 32 := 0#32
  let v509 : BitVec 1 := Scalar.cmpi .eq arg1 c0_i32_52
  let v510 : BitVec 32 := Scalar.extui v509
  let c0_i32_53 : BitVec 32 := 0#32
  let v511 : BitVec 1 := Scalar.cmpi .ne v510 c0_i32_53
  v511

def k2_cond2 (i : grid2.Coords) : BitVec 1 :=
  let arg1 : BitVec 32 := BitVec.ofNat 32 (i 1).val
  let c0_i32_54 : BitVec 32 := 0#32
  let v512 : BitVec 1 := Scalar.cmpi .sgt arg1 c0_i32_54
  let v513 : BitVec 32 := Scalar.extui v512
  let c0_i32_55 : BitVec 32 := 0#32
  let v514 : BitVec 1 := Scalar.cmpi .ne v513 c0_i32_55
  v514

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![arg1.toNat, v1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![arg1.toNat, v1.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S16x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x64x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x16x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 1 → Memref sig .tc .vmem S1024x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S64x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]
-- ==== KernelIdeal.lean ====
variable {F : FTy → Type} [FloatOps F] [Named F]
def κ : String → Option EReal := fun
  | "far" => some ⊤
  | _ => none
-- ==== ReferenceIdeal.lean ====
abbrev S1x4096x1024 : Shape := ⟨3, ![1, 4096, 1024]⟩
abbrev S16x1024x64 : Shape := ⟨3, ![16, 1024, 64]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16x64 : Shape := ⟨2, ![16, 64]⟩
abbrev S1024x1024 : Shape := ⟨2, ![1024, 1024]⟩
abbrev S16x64x16 : Shape := ⟨3, ![16, 64, 16]⟩
abbrev S16x16x64 : Shape := ⟨3, ![16, 16, 64]⟩
abbrev S4096x1024 : Shape := ⟨2, ![4096, 1024]⟩
abbrev S16x64x4096 : Shape := ⟨3, ![16, 64, 4096]⟩
abbrev S16x4096x64 : Shape := ⟨3, ![16, 4096, 64]⟩
abbrev S_ : Shape := ⟨0, ![]⟩
abbrev S16x512x64 : Shape := ⟨3, ![16, 512, 64]⟩
abbrev S1x1024 : Shape := ⟨2, ![1, 1024]⟩
abbrev S1x512 : Shape := ⟨2, ![1, 512]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x64x1 : Shape := ⟨3, ![4096, 64, 1]⟩
abbrev S16x4096x64x64 : Shape := ⟨4, ![16, 4096, 64, 64]⟩
abbrev S16x4096x1x64 : Shape := ⟨4, ![16, 4096, 1, 64]⟩
abbrev S16x1x1x64 : Shape := ⟨4, ![16, 1, 1, 64]⟩
abbrev S1x4096x64 : Shape := ⟨3, ![1, 4096, 64]⟩
abbrev S16x4096x32 : Shape := ⟨3, ![16, 4096, 32]⟩
abbrev S16 : Shape := ⟨1, ![16]⟩
abbrev S16x1x1 : Shape := ⟨3, ![16, 1, 1]⟩
abbrev S1x4096x1 : Shape := ⟨3, ![1, 4096, 1]⟩
abbrev S16x4096x32x1 : Shape := ⟨4, ![16, 4096, 32, 1]⟩
abbrev S16x4096x32x2 : Shape := ⟨4, ![16, 4096, 32, 2]⟩
abbrev S16x4096 : Shape := ⟨2, ![16, 4096]⟩
abbrev S16x4096x1 : Shape := ⟨3, ![16, 4096, 1]⟩
abbrev S16x4096x32x64 : Shape := ⟨4, ![16, 4096, 32, 64]⟩
abbrev S16x64x64 : Shape := ⟨3, ![16, 64, 64]⟩
abbrev S4096x16x64 : Shape := ⟨3, ![4096, 16, 64]⟩

abbrev nBuf : Space → Nat
  | .hbm => 209
  | .vmem => 0
  | .smem => 0
  | _ => 0

abbrev hbmTy0_0 (i : Nat) : BufTy := match i % 128 with
  | 0 => ⟨S1x4096x1024, .f32⟩
  | 1 => ⟨S16x1024x64, .f32⟩
  | 2 => ⟨S16x1024x64, .f32⟩
  | 3 => ⟨S512x1024, .f32⟩
  | 4 => ⟨S512, .f32⟩
  | 5 => ⟨S1024x512, .f32⟩
  | 6 => ⟨S1024, .f32⟩
  | 7 => ⟨S16x64, .f32⟩
  | 8 => ⟨S1024x1024, .f32⟩
  | 9 => ⟨S16x64x16, .f32⟩
  | 10 => ⟨S16x16x64, .f32⟩
  | 11 => ⟨S4096x1024, .f32⟩
  | 12 => ⟨S16x64x4096, .f32⟩
  | 13 => ⟨S16x4096x64, .f32⟩
  | 14 => ⟨S_, .f32⟩
  | 15 => ⟨S16x4096x64, .f32⟩
  | 16 => ⟨S16x4096x64, .f32⟩
  | 17 => ⟨S4096x1024, .f32⟩
  | 18 => ⟨S16x64x4096, .f32⟩
  | 19 => ⟨S16x4096x64, .f32⟩
  | 20 => ⟨S_, .f32⟩
  | 21 => ⟨S16x4096x64, .f32⟩
  | 22 => ⟨S16x4096x64, .f32⟩
  | 23 => ⟨S_, .f32⟩
  | 24 => ⟨S16x64, .f32⟩
  | 25 => ⟨S_, .f32⟩
  | 26 => ⟨S16x64, .f32⟩
  | 27 => ⟨S16x64, .f32⟩
  | 28 => ⟨S16x512x64, .f32⟩
  | 29 => ⟨S_, .f32⟩
  | 30 => ⟨S16x64, .f32⟩
  | 31 => ⟨S_, .f32⟩
  | 32 => ⟨S16x64, .f32⟩
  | 33 => ⟨S16x64, .f32⟩
  | 34 => ⟨S_, .f32⟩
  | 35 => ⟨S16x64, .f32⟩
  | 36 => ⟨S16x64, .f32⟩
  | 37 => ⟨S16x64, .f32⟩
  | 38 => ⟨S1x1024, .f32⟩
  | 39 => ⟨S1024x512, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S_, .f32⟩
  | 47 => ⟨S_, .f32⟩
  | 48 => ⟨S_, .f32⟩
  | 49 => ⟨S1x512, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S512x1024, .f32⟩
  | 57 => ⟨S1x1024, .f32⟩
  | 58 => ⟨S1x1024, .f32⟩
  | 59 => ⟨S1x1024, .f32⟩
  | 60 => ⟨S16x64, .f32⟩
  | 61 => ⟨S_, .f32⟩
  | 62 => ⟨S16x64, .f32⟩
  | 63 => ⟨S16x64, .f32⟩
  | 64 => ⟨S16x64, .f32⟩
  | 65 => ⟨S_, .f32⟩
  | 66 => ⟨S16x64, .f32⟩
  | 67 => ⟨S16x64, .f32⟩
  | 68 => ⟨S16x64, .f32⟩
  | 69 => ⟨S16x64, .f32⟩
  | 70 => ⟨S16x64, .i1⟩
  | 71 => ⟨S16x64, .f32⟩
  | 72 => ⟨S16x64, .f32⟩
  | 73 => ⟨S16x64, .f32⟩
  | 74 => ⟨S16x64, .f32⟩
  | 75 => ⟨S16x64, .f32⟩
  | 76 => ⟨S16x64, .f32⟩
  | 77 => ⟨S16x64, .f32⟩
  | 78 => ⟨S16x64, .f32⟩
  | 79 => ⟨S4096, .i32⟩
  | 80 => ⟨S64, .i32⟩
  | 81 => ⟨S4096x1, .i32⟩
  | 82 => ⟨S1x64, .i32⟩
  | 83 => ⟨S4096x64, .i32⟩
  | 84 => ⟨S4096x64, .i32⟩
  | 85 => ⟨S4096x64, .i32⟩
  | 86 => ⟨S_, .i32⟩
  | 87 => ⟨S_, .i32⟩
  | 88 => ⟨S_, .i32⟩
  | 89 => ⟨S4096x64, .i32⟩
  | 90 => ⟨S4096x64, .i32⟩
  | 91 => ⟨S_, .i32⟩
  | 92 => ⟨S4096x64, .i32⟩
  | 93 => ⟨S4096x64, .i32⟩
  | 94 => ⟨S4096x1, .i32⟩
  | 95 => ⟨S4096x64, .i32⟩
  | 96 => ⟨S4096x64, .i1⟩
  | 97 => ⟨S_, .i32⟩
  | 98 => ⟨S4096x64, .i32⟩
  | 99 => ⟨S4096x64, .i1⟩
  | 100 => ⟨S_, .i32⟩
  | 101 => ⟨S4096x64, .i32⟩
  | 102 => ⟨S4096x64, .i32⟩
  | 103 => ⟨S4096x64, .i32⟩
  | 104 => ⟨S4096x64x1, .i32⟩
  | 105 => ⟨S16x4096x64x64, .f32⟩
  | 106 => ⟨S16x4096x1x64, .f32⟩
  | 107 => ⟨S16x4096x64x64, .f32⟩
  | 108 => ⟨S16x4096x64x64, .f32⟩
  | 109 => ⟨S16x4096x64x64, .f32⟩
  | 110 => ⟨S16x1x1x64, .f32⟩
  | 111 => ⟨S16x4096x64x64, .f32⟩
  | 112 => ⟨S16x4096x64x64, .f32⟩
  | 113 => ⟨S_, .f32⟩
  | 114 => ⟨S16x4096x64, .f32⟩
  | 115 => ⟨S_, .f32⟩
  | 116 => ⟨S16x4096x64, .f32⟩
  | 117 => ⟨S16x4096x64, .f32⟩
  | 118 => ⟨S16x4096x64, .f32⟩
  | 119 => ⟨S1x4096x64, .i1⟩
  | 120 => ⟨S_, .f32⟩
  | 121 => ⟨S_, .f32⟩
  | 122 => ⟨S16x4096x64, .i1⟩
  | 123 => ⟨S16x4096x64, .f32⟩
  | 124 => ⟨S16x4096x64, .f32⟩
  | 125 => ⟨S16x4096x64, .f32⟩
  | 126 => ⟨S16x4096x32, .f32⟩
  | 127 => ⟨S16x4096x32, .i32⟩
  | _ => ⟨S1x4096x1024, .f32⟩

abbrev hbmTy0_1 (i : Nat) : BufTy := match i % 128 with
  | 0 => ⟨S16, .i32⟩
  | 1 => ⟨S16x1x1, .i32⟩
  | 2 => ⟨S1x4096x1, .i32⟩
  | 3 => ⟨S_, .i32⟩
  | 4 => ⟨S1x4096x1, .i32⟩
  | 5 => ⟨S1x4096x1, .i1⟩
  | 6 => ⟨S_, .i32⟩
  | 7 => ⟨S1x4096x1, .i32⟩
  | 8 => ⟨S1x4096x1, .i32⟩
  | 9 => ⟨S1x4096x1, .i32⟩
  | 10 => ⟨S_, .i32⟩
  | 11 => ⟨S16x4096x32, .i32⟩
  | 12 => ⟨S16x4096x32, .i1⟩
  | 13 => ⟨S_, .i32⟩
  | 14 => ⟨S16x4096x32, .i32⟩
  | 15 => ⟨S16x4096x32, .i32⟩
  | 16 => ⟨S16x4096x32, .i32⟩
  | 17 => ⟨S16x4096x32, .i32⟩
  | 18 => ⟨S16x4096x32x1, .i32⟩
  | 19 => ⟨S16x4096x32x1, .i32⟩
  | 20 => ⟨S16x4096x32x2, .i32⟩
  | 21 => ⟨S16x4096x32, .i32⟩
  | 22 => ⟨S16x4096x32, .f32⟩
  | 23 => ⟨S_, .f32⟩
  | 24 => ⟨S16x4096, .f32⟩
  | 25 => ⟨S16x4096x1, .f32⟩
  | 26 => ⟨S_, .f32⟩
  | 27 => ⟨S16x4096x1, .f32⟩
  | 28 => ⟨S16x4096x1, .f32⟩
  | 29 => ⟨S16x4096x32, .f32⟩
  | 30 => ⟨S16x4096x32, .f32⟩
  | 31 => ⟨S_, .i32⟩
  | 32 => ⟨S16x1x1, .i32⟩
  | 33 => ⟨S16x1x1, .i1⟩
  | 34 => ⟨S_, .i32⟩
  | 35 => ⟨S16x1x1, .i32⟩
  | 36 => ⟨S16x1x1, .i32⟩
  | 37 => ⟨S16x1x1, .i32⟩
  | 38 => ⟨S_, .i32⟩
  | 39 => ⟨S16x4096x32, .i32⟩
  | 40 => ⟨S16x4096x32, .i1⟩
  | 41 => ⟨S_, .i32⟩
  | 42 => ⟨S16x4096x32, .i32⟩
  | 43 => ⟨S16x4096x32, .i32⟩
  | 44 => ⟨S16x4096x32, .i32⟩
  | 45 => ⟨S16x4096x32, .i32⟩
  | 46 => ⟨S16x4096x32x1, .i32⟩
  | 47 => ⟨S16x4096x32x1, .i32⟩
  | 48 => ⟨S16x4096x32x2, .i32⟩
  | 49 => ⟨S16x4096x32x64, .f32⟩
  | 50 => ⟨S16x4096x64, .f32⟩
  | 51 => ⟨S16x4096x64, .f32⟩
  | 52 => ⟨S_, .f32⟩
  | 53 => ⟨S16x4096, .f32⟩
  | 54 => ⟨S16x4096x1, .f32⟩
  | 55 => ⟨S_, .f32⟩
  | 56 => ⟨S16x4096x1, .f32⟩
  | 57 => ⟨S16x4096x1, .f32⟩
  | 58 => ⟨S16x4096x1, .f32⟩
  | 59 => ⟨S_, .f32⟩
  | 60 => ⟨S16x4096x1, .f32⟩
  | 61 => ⟨S16x4096x1, .i1⟩
  | 62 => ⟨S16x4096x1, .f32⟩
  | 63 => ⟨S16x64x64, .f32⟩
  | 64 => ⟨S_, .f32⟩
  | 65 => ⟨S16x4096x1, .f32⟩
  | 66 => ⟨S16x4096x1, .f32⟩
  | 67 => ⟨S16x4096x64, .f32⟩
  | 68 => ⟨S16x4096x64, .f32⟩
  | 69 => ⟨S16x4096x64, .f32⟩
  | 70 => ⟨S_, .f32⟩
  | 71 => ⟨S16x4096x1, .f32⟩
  | 72 => ⟨S16x4096x1, .f32⟩
  | 73 => ⟨S16x4096x64, .f32⟩
  | 74 => ⟨S16x4096x64, .f32⟩
  | 75 => ⟨S16x4096x64, .f32⟩
  | 76 => ⟨S16x4096x64, .f32⟩
  | 77 => ⟨S4096x16x64, .f32⟩
  | 78 => ⟨S4096x1024, .f32⟩
  | 79 => ⟨S4096x1024, .f32⟩
  | 80 => ⟨S1x4096x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c : Ref sig .tc := ⟨.hbm, 86, rfl⟩
abbrev main_c_10 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_11 : Ref sig .tc := ⟨.hbm, 97, rfl⟩
abbrev main_v55 : Ref sig .tc := ⟨.hbm, 98, rfl⟩
abbrev main_v56 : Ref sig .tc := ⟨.hbm, 99, rfl⟩
abbrev main_c_12 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_13 : Ref sig .tc := ⟨.hbm, 113, rfl⟩
abbrev main_v69 : Ref sig .tc := ⟨.hbm, 114, rfl⟩
abbrev main_cst_14 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_15 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v74 : Ref sig .tc := ⟨.hbm, 124, rfl⟩
abbrev main_v75 : Ref sig .tc := ⟨.hbm, 125, rfl⟩
abbrev main_values : Ref sig .tc := ⟨.hbm, 126, rfl⟩
abbrev main_indices : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_16 : Ref sig .tc := ⟨.hbm, 131, rfl⟩
abbrev main_v79 : Ref sig .tc := ⟨.hbm, 132, rfl⟩
abbrev main_v80 : Ref sig .tc := ⟨.hbm, 133, rfl⟩
abbrev main_c_17 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_18 : Ref sig .tc := ⟨.hbm, 138, rfl⟩
abbrev main_v84 : Ref sig .tc := ⟨.hbm, 139, rfl⟩
abbrev main_v85 : Ref sig .tc := ⟨.hbm, 140, rfl⟩
abbrev main_c_19 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_20 : Ref sig .tc := ⟨.hbm, 151, rfl⟩
abbrev main_v95 : Ref sig .tc := ⟨.hbm, 152, rfl⟩
abbrev main_v96 : Ref sig .tc := ⟨.hbm, 153, rfl⟩
abbrev main_cst_21 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_c_22 : Ref sig .tc := ⟨.hbm, 159, rfl⟩
abbrev main_v101 : Ref sig .tc := ⟨.hbm, 160, rfl⟩
abbrev main_v102 : Ref sig .tc := ⟨.hbm, 161, rfl⟩
abbrev main_c_23 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_24 : Ref sig .tc := ⟨.hbm, 166, rfl⟩
abbrev main_v106 : Ref sig .tc := ⟨.hbm, 167, rfl⟩
abbrev main_v107 : Ref sig .tc := ⟨.hbm, 168, rfl⟩
abbrev main_c_25 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_cst_26 : Ref sig .tc := ⟨.hbm, 180, rfl⟩
abbrev main_v118 : Ref sig .tc := ⟨.hbm, 181, rfl⟩
abbrev main_v119 : Ref sig .tc := ⟨.hbm, 182, rfl⟩
abbrev main_cst_27 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_28 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_29 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_30 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩

abbrev nD : Nat := 1
abbrev τ : Topo := Topo.v7x

variable {F : FTy → Type} [FloatOps F]
-- ==== Proof.KernelIdealFrame.lean ====
/- The run of `KernelIdeal`: three pipelined regions among stretches of host operations.
   Regions 0 and 1 store every output block whole at each point. Region 2 stores its output block at the first head of
   a row block and adds to it at every later head, so what a point leaves in the window is a recursion over the points
   (`outsAt2`), stepped by one case per branch. The buffer contents at every boundary between segments are a fold from
   the launch memory (`W0` to `W7`), and the run ends with every unscoped buffer at the last of them (`run`).
   All but `run` and `frame`, at the end, is generated text, printed with one refusal switched off (NOTES.md). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Frame

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__enc_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x1024 := Rect.unit (s := S4096x1024) ![0, 0] S4096x1024.size inb_S4096x1024_S4096x1024_0_0
abbrev r0_1 : Rect S1x1024x64 := Rect.unit (s := S1x1024x64) ![0, 0, 0] S1x1024x64.size inb_S1x1024x64_S1x1024x64_0_0_0
abbrev r0_2 : Rect S1x4096x64 := Rect.unit (s := S1x4096x64) ![0, 0, 0] S1x4096x64.size inb_S1x4096x64_S1x4096x64_0_0_0
abbrev r0_3 : Rect S1x1x64 := Rect.unit (s := S1x1x64) ![0, 0, 0] S1x1x64.size inb_S1x1x64_S1x1x64_0_0_0

/-! ## What the body leaves in each output window's buffer -/

/-- Window 3's staging buffer after the body, from the input windows' blocks: its 1 store as pieces, LAST
    FIRST (Lib/Pipeline/FrameBody.lean `View.canon`; the payloads are the skeleton's). -/
def out0_3 (x0 : Vec F S4096x1024 .f32) (x1 : Vec F S1x1024x64 .f32) (x2 : Vec F S1x1024x64 .f32) : Vec F S1x4096x64 .f32 :=
  View.canon [⟨r0_2, k0_pay4 (View.ld x0 r0_0) (View.ld x1 r0_1)⟩]

/-- Its stores tile the buffer (checked by evaluation), so they cover it. -/
theorem cover0_3 (p0 : Vec F S1x4096x64 .f32) (y : S1x4096x64.Idx) :
    ∃ pc ∈ ([⟨r0_2, p0⟩] : List (View.Piece (Elt F) S1x4096x64 .f32)), y ∈ pc.1.set :=
  View.cover_of_tiled [⟨r0_2, p0⟩] S1x4096x64.size (by rfl) y

/-- Window 4's staging buffer after the body, from the input windows' blocks: its 1 store as pieces, LAST
    FIRST (Lib/Pipeline/FrameBody.lean `View.canon`; the payloads are the skeleton's). -/
def out0_4 (x0 : Vec F S4096x1024 .f32) (x1 : Vec F S1x1024x64 .f32) (x2 : Vec F S1x1024x64 .f32) : Vec F S1x4096x64 .f32 :=
  View.canon [⟨r0_2, k0_pay5 (View.ld x0 r0_0) (View.ld x2 r0_1)⟩]

/-- Its stores tile the buffer (checked by evaluation), so they cover it. -/
theorem cover0_4 (p0 : Vec F S1x4096x64 .f32) (y : S1x4096x64.Idx) :
    ∃ pc ∈ ([⟨r0_2, p0⟩] : List (View.Piece (Elt F) S1x4096x64 .f32)), y ∈ pc.1.set :=
  View.cover_of_tiled [⟨r0_2, p0⟩] S1x4096x64.size (by rfl) y

/-- Window 5's staging buffer after the body, from the input windows' blocks: its 1 store as pieces, LAST
    FIRST (Lib/Pipeline/FrameBody.lean `View.canon`; the payloads are the skeleton's). -/
def out0_5 (x0 : Vec F S4096x1024 .f32) (x1 : Vec F S1x1024x64 .f32) (x2 : Vec F S1x1024x64 .f32) : Vec F S1x1x64 .f32 :=
  View.canon [⟨r0_3, k0_pay6 (View.ld x0 r0_0) (View.ld x1 r0_1)⟩]

/-- Its stores tile the buffer (checked by evaluation), so they cover it. -/
theorem cover0_5 (p0 : Vec F S1x1x64 .f32) (y : S1x1x64.Idx) :
    ∃ pc ∈ ([⟨r0_3, p0⟩] : List (View.Piece (Elt F) S1x1x64 .f32)), y ∈ pc.1.set :=
  View.cover_of_tiled [⟨r0_3, p0⟩] S1x1x64.size (by rfl) y

/-- Window 6's staging buffer after the body, from the input windows' blocks: its 1 store as pieces, LAST
    FIRST (Lib/Pipeline/FrameBody.lean `View.canon`; the payloads are the skeleton's). -/
def out0_6 (x0 : Vec F S4096x1024 .f32) (x1 : Vec F S1x1024x64 .f32) (x2 : Vec F S1x1024x64 .f32) : Vec F S1x1x64 .f32 :=
  View.canon [⟨r0_3, k0_pay1 (k0_pay3 (View.ld x0 r0_0) (View.ld x1 r0_1)) (Scalar.select (Scalar.cmpi .eq 8#32 0#32) 1#32 8#32) k0_pay7 k0_pay8⟩]

/-- Its stores tile the buffer (checked by evaluation), so they cover it. -/
theorem cover0_6 (p0 : Vec F S1x1x64 .f32) (y : S1x1x64.Idx) :
    ∃ pc ∈ ([⟨r0_3, p0⟩] : List (View.Piece (Elt F) S1x1x64 .f32)), y ∈ pc.1.set :=
  View.cover_of_tiled [⟨r0_3, p0⟩] S1x1x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S4096x1024 .f32) (harg1 : arg1.IsWhole) (arg2 : Memref sig .tc .vmem S1x1024x64 .f32) (harg2 : arg2.IsWhole) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1x64 .f32) (harg6 : arg6.IsWhole) (arg7 : Memref sig .tc .vmem S1x1x64 .f32) (harg7 : arg7.IsWhole)
    (x0 : Vec F S4096x1024 .f32) (x1 : Vec F S1x1024x64 .f32) (x2 : Vec F S1x1024x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__enc_kernel i arg1 harg1 arg2 harg2 arg3 harg3 arg4 harg4 arg5 harg5 arg6 harg6 arg7 harg7) K := by
  simp only [cc0__enc_kernel_eq_skeleton]; unfold cc0__enc_kernel_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__metric_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1024 := Rect.unit (s := S1x1024) ![0, 0] S1x1024.size inb_S1x1024_S1x1024_0_0
abbrev r1_1 : Rect S1024x512 := Rect.unit (s := S1024x512) ![0, 0] S1024x512.size inb_S1024x512_S1024x512_0_0
abbrev r1_2 : Rect S1x512 := Rect.unit (s := S1x512) ![0, 0] S1x512.size inb_S1x512_S1x512_0_0
abbrev r1_3 : Rect S512x1024 := Rect.unit (s := S512x1024) ![0, 0] S512x1024.size inb_S512x1024_S512x1024_0_0

/-! ## What the body leaves in each output window's buffer -/

/-- Window 7's staging buffer after the body, from the input windows' blocks: its 1 store as pieces, LAST
    FIRST (Lib/Pipeline/FrameBody.lean `View.canon`; the payloads are the skeleton's). -/
def out1_7 (x0 : Vec F S1x1024 .f32) (x1 : Vec F S1x1024 .f32) (x2 : Vec F S1024x512 .f32) (x3 : Vec F S1x512 .f32) (x4 : Vec F S512x1024 .f32) (x5 : Vec F S1x1024 .f32) (x6 : Vec F S1x1024 .f32) : Vec F S1x1024 .f32 :=
  View.canon [⟨r1_0, k1_pay1 (k1_pay2 (View.ld x0 r1_0) (View.ld x1 r1_0) (View.ld x2 r1_1) (View.ld x3 r1_2) (View.ld x4 r1_3) (View.ld x5 r1_0) (View.ld x6 r1_0))⟩]

/-- Its stores tile the buffer (checked by evaluation), so they cover it. -/
theorem cover1_7 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S1x1024 .f32) (harg0 : arg0.IsWhole) (arg1 : Memref sig .tc .vmem S1x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole)
    (x0 : Vec F S1x1024 .f32) (x1 : Vec F S1x1024 .f32) (x2 : Vec F S1024x512 .f32) (x3 : Vec F S1x512 .f32) (x4 : Vec F S512x1024 .f32) (x5 : Vec F S1x1024 .f32) (x6 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__metric_kernel arg0 harg0 arg1 harg1 arg2 harg2 arg3 harg3 arg4 harg4 arg5 harg5 arg6 harg6 arg7 harg7) K := by
  simp only [cc1__metric_kernel_eq_skeleton]; unfold cc1__metric_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__band_kernel` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the points ≡ 0 (mod 16) — by arithmetic of the point. -/
theorem hcond2_0 : ∀ t : Fin cfg2.N, cond2_0 (grid2.coords t) ↔ t.val % 16 = 0 :=
  (fun t => by
    have ht : t.val < 1024 := Nat.lt_of_lt_of_eq t.isLt N_2
    have e0 : (grid2.coords t 0).val = t.val / 16 % 64 := Pipeline.Grid.coords_val t 0 (by decide) rfl
    have e1 : (grid2.coords t 1).val = t.val / 1 % 16 := Pipeline.Grid.coords_val t 1 (by decide) rfl
    simp only [cond2_0, k2_cond1, e0, e1]
    word_cmp
   : ∀ t : Fin grid2.N, cond2_0 (grid2.coords t) ↔ t.val % 16 = 0)

/-- The condition of the body's `scf.if` 1 (`k2_h2`), from the grid coordinates (the skeleton's scalar
    chain substituted). -/
abbrev cond2_1 (i : grid2.Coords) : Prop := k2_cond2 i = 1#1
/-- It holds at the points whose coordinates have 1 ≤ i1 — decided over the grid. -/
theorem hcond2_1 : ∀ t : Fin cfg2.N, cond2_1 (grid2.coords t) ↔ 1 ≤ t.val % 16 :=
  (by decide +kernel : ∀ t : Fin grid2.N, cond2_1 (grid2.coords t) ↔ 1 ≤ t.val % 16)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Window 6 is never idle (an input). -/
theorem liveAt2_6 : ∀ t : Fin cfg2.N, cfg2.idle 6 (grid2.coords t) = false := fun _ => rfl
/-- Window 7 is never idle (an input). -/
theorem liveAt2_7 : ∀ t : Fin cfg2.N, cfg2.idle 7 (grid2.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab2_8_step` checks it against the configuration's own
    step point by point and Lib/Pipeline/TableIdle.lean `Cfg.fresh_tab` makes it `Cfg.fresh` (`fresh2_8_eq`). -/
def freshTab2_8 : ℕ → Bool
  | 0 => true
  | n + 1 => (0x8000800080008000800080008000800080008000800080008000800080008000800080008000800080008000800080008000800080008000800080008000800080008000800080008000800080008000800080008000800080008000800080008000800080008000800080008000800080008000800080008000800080008000 : ℕ).testBit n
theorem freshTab2_8_step : ∀ t : Fin cfg2.N,
    freshTab2_8 (t.val + 1) = ((cfg2.win 8).flush t || (cfg2.idle 8 (cfg2.grid.coords t) && freshTab2_8 t.val)) := by decide +kernel
theorem fresh2_8_eq (t : Fin cfg2.N) : cfg2.fresh 8 t.val = freshTab2_8 t.val :=
  Pipeline.Cfg.fresh_tab cfg2 8 freshTab2_8 rfl freshTab2_8_step t.val (Nat.le_of_lt t.isLt)
/-- At the points of case A the printed configuration (`Cfg.idle`) calls output 8 live: the case stores into it. -/
theorem liveAt2_8_A : ∀ t : Fin cfg2.N, cond2_0 (grid2.coords t) → ¬cond2_1 (grid2.coords t) → cfg2.idle 8 (grid2.coords t) = false := by decide +kernel
/-- At the points of case B the printed configuration (`Cfg.idle`) calls output 8 live: the case stores into it. -/
theorem liveAt2_8_B : ∀ t : Fin cfg2.N, ¬cond2_0 (grid2.coords t) → cond2_1 (grid2.coords t) → cfg2.idle 8 (grid2.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab2_8`). -/
theorem notFresh2_8_B : ∀ t : Fin cfg2.N, ¬cond2_0 (grid2.coords t) → cond2_1 (grid2.coords t) → cfg2.fresh 8 t.val = false := by
  intro t; rw [fresh2_8_eq t]; revert t; decide +kernel

/-! ## The kernel body on any staging memrefs: a subtype the run finds -/

/-- One staging buffer of output window 8, through which its contents are stated (`View.read_writes_of_cover`: the
    choice does not matter). -/
abbrev VO2_8 : View sig .tc .vmem S64x1024 .f32 := (Memref.whole cc2_stg8_0 : Memref sig .tc .vmem S64x1024 .f32).view
/-- Each window's current staging memref at point `t`, spelled as the pipeline passes it (`bodyAt2`), and its wholeness. -/
abbrev ms2_0 (t : Fin cfg2.N) : Memref sig .tc .vmem S1x64x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x16x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x1024 .f32 := win2_8.stage (cfg2.slots t 8)
abbrev hs2_8 (t : Fin cfg2.N) : (ms2_8 t).IsWhole := hstage2_8 ((cfg2.slots t 8).cast nbuf2_8)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 1008: 64 of 1024), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole) (hc0 : cond2_0 i) (hc1 : ¬cond2_1 i)
    (x0 : Vec F S1x64x64 .f32) (x1 : Vec F S1x64x64 .f32) (x2 : Vec F S1x64x64 .f32) (x3 : Vec F S1x64x64 .f32) (x4 : Vec F S16x64 .f32) (x5 : Vec F S1x64x16 .f32) (x6 : Vec F S1x16x64 .f32) (x7 : Vec F S1024x1024 .f32) :
    { L8 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc2__band_kernel i arg2 harg2 arg3 harg3 arg4 harg4 arg5 harg5 arg6 harg6 arg7 harg7 arg8 harg8 arg9 harg9 arg10 harg10) K } := by
  refine ⟨?_, fun E K => ?run⟩
  case run =>
    simp only [cc2__band_kernel_eq_skeleton]; unfold cc2__band_kernel_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

/-- Case A's pieces for output 8 tile its block (1 store of `S64x1024`, checked by the kernel's evaluation: Lib/Ring.lean `Piece.tiledL`, linear in the pieces, through a loop's `@[irreducible]` trip theorem too), so they cover it. -/
theorem cover2_A_8 (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole) (hc0 : cond2_0 i) (hc1 : ¬cond2_1 i)
    (x0 : Vec F S1x64x64 .f32) (x1 : Vec F S1x64x64 .f32) (x2 : Vec F S1x64x64 .f32) (x3 : Vec F S1x64x64 .f32) (x4 : Vec F S16x64 .f32) (x5 : Vec F S1x64x16 .f32) (x6 : Vec F S1x16x64 .f32) (x7 : Vec F S1024x1024 .f32) (y : S64x1024.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5 x6 x7).1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5 x6 x7).1 S64x1024.size (by sl_kernel_rfl) y

/-- What case A leaves in output 8's staging buffer: its pieces read back over junk. -/
def out2_A_8 (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole) (hc0 : cond2_0 i) (hc1 : ¬cond2_1 i)
    (x0 : Vec F S1x64x64 .f32) (x1 : Vec F S1x64x64 .f32) (x2 : Vec F S1x64x64 .f32) (x3 : Vec F S1x64x64 .f32) (x4 : Vec F S16x64 .f32) (x5 : Vec F S1x64x16 .f32) (x6 : Vec F S1x16x64 .f32) (x7 : Vec F S1024x1024 .f32) : Vec F S64x1024 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 hc0 hc1 x0 x1 x2 x3 x4 x5 x6 x7).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 1023: 960 of 1024), WITH the
    proof that on whole staging memrefs — the inputs' at their contents, the outputs it reads before covering (8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole) (hc0 : ¬cond2_0 i) (hc1 : cond2_1 i)
    (x0 : Vec F S1x64x64 .f32) (x1 : Vec F S1x64x64 .f32) (x2 : Vec F S1x64x64 .f32) (x3 : Vec F S1x64x64 .f32) (x4 : Vec F S16x64 .f32) (x5 : Vec F S1x64x16 .f32) (x6 : Vec F S1x16x64 .f32) (x7 : Vec F S1024x1024 .f32) (xo8 : Vec F S64x1024 .f32) :
    { L8 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc2__band_kernel i arg2 harg2 arg3 harg3 arg4 harg4 arg5 harg5 arg6 harg6 arg7 harg7 arg8 harg8 arg9 harg9 arg10 harg10) K } := by
  refine ⟨?_, fun E K => ?run⟩
  case run =>
    simp only [cc2__band_kernel_eq_skeleton]; unfold cc2__band_kernel_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

/-- Case B's pieces for output 8 tile its block (1 store of `S64x1024`, checked by the kernel's evaluation: Lib/Ring.lean `Piece.tiledL`, linear in the pieces, through a loop's `@[irreducible]` trip theorem too), so they cover it. -/
theorem cover2_B_8 (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole) (hc0 : ¬cond2_0 i) (hc1 : cond2_1 i)
    (x0 : Vec F S1x64x64 .f32) (x1 : Vec F S1x64x64 .f32) (x2 : Vec F S1x64x64 .f32) (x3 : Vec F S1x64x64 .f32) (x4 : Vec F S16x64 .f32) (x5 : Vec F S1x64x16 .f32) (x6 : Vec F S1x16x64 .f32) (x7 : Vec F S1024x1024 .f32) (xo8 : Vec F S64x1024 .f32) (y : S64x1024.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 x6 x7 xo8).1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 x6 x7 xo8).1 S64x1024.size (by sl_kernel_rfl) y

/-- What case B leaves in output 8's staging buffer: its pieces read back over junk. -/
def out2_B_8 (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole) (hc0 : ¬cond2_0 i) (hc1 : cond2_1 i)
    (x0 : Vec F S1x64x64 .f32) (x1 : Vec F S1x64x64 .f32) (x2 : Vec F S1x64x64 .f32) (x3 : Vec F S1x64x64 .f32) (x4 : Vec F S16x64 .f32) (x5 : Vec F S1x64x16 .f32) (x6 : Vec F S1x16x64 .f32) (x7 : Vec F S1024x1024 .f32) (xo8 : Vec F S64x1024 .f32) : Vec F S64x1024 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 hc0 hc1 x0 x1 x2 x3 x4 x5 x6 x7 xo8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S64x1024 .f32
  | 0, hn => out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩)
  | n + 1, hn =>
    if h0 : (n + 1) % 16 = 0 then
      if h1 : 1 ≤ (n + 1) % 16 then
        False.elim (by have hN : n + 1 < 1024 := lt_of_lt_of_eq hn (show cfg2.N = 1024 from N_2); omega)
      else
        out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩)
    else
      if h1 : 1 ≤ (n + 1) % 16 then
        out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn))
      else
        False.elim (by have hN : n + 1 < 1024 := lt_of_lt_of_eq hn (show cfg2.N = 1024 from N_2); omega)

/-- `outsAt2` at a point of case A: that case's contents. -/
theorem outsAt2_A (c : Dev nD) (t : Fin cfg2.N) (h0 : t.val % 16 = 0) (h1 : ¬1 ≤ t.val % 16) :
    outsAt2 V c t.val t.isLt = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : 1 ≤ t.val % 16) :
    outsAt2 V c t.val t.isLt = out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; each input's share of its array
    (`Pipeline.shareOf`: the full share of an array several windows stage, dealt among them). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt)
  Φ _ := Pipeline.ΦA spec2 c
  q w := Pipeline.shareOf spec2 w
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- Output 8's contents CARRY through the points that leave it idle: at such a point, its buffer not fresh, the proof data's
    `after` is the point before's (the case there stores nothing into the window and its term says so; a case that stores
    into it is not idle there by `liveAt2_8_κ`) — the hypothesis of Lib/Pipeline/TableIdle.lean `Dat.before_out_traj`. -/
theorem hcarry2_8 (c : Dev nD) : ∀ (t : Fin cfg2.N) (_ : t.val ≠ 0), cfg2.idle 8 (grid2.coords t) = true → cfg2.fresh 8 t.val = false →
    (dat2 V c).after 8 t = (dat2 V c).after 8 ⟨t.val - 1, by omega⟩ := by
  intro t _ hi _
  have hN : t.val < 1024 := lt_of_lt_of_eq t.isLt (show cfg2.N = 1024 from N_2)
  rw [after2_8, after2_8]
  by_cases h0 : t.val % 16 = 0
  · by_cases h1 : 1 ≤ t.val % 16
    · exfalso; omega
    · rw [liveAt2_8_A t ((hcond2_0 t).mpr h0) (fun h => h1 ((hcond2_1 t).mp h))] at hi
      exact absurd hi Bool.false_ne_true
  · by_cases h1 : 1 ≤ t.val % 16
    · rw [liveAt2_8_B t (fun h => h0 ((hcond2_0 t).mp h)) ((hcond2_1 t).mpr h1)] at hi
      exact absurd hi Bool.false_ne_true
    · exfalso; omega
/-- At a point of case B output 8's current staging buffer holds what the point before left: the buffer is not fresh
    there (`notFresh2_8_B`: stored into since the region's entry or the last write-back, carried through the points that
    leave it idle by `hcarry2_8`; Lib/Pipeline/TableIdle.lean `Dat.before_out_traj`). -/
theorem before2_8_B (c : Dev nD) (t : Fin cfg2.N) (h0 : ¬t.val % 16 = 0) (h1 : 1 ≤ t.val % 16) (d) :
    (dat2 V c).before 8 t d = (outsAt2 V c (t.val - 1) (Nat.lt_of_le_of_lt (Nat.sub_le _ _) t.isLt)) := by
  rw [Dat.before_out_traj _ 8 rfl (fun _ _ => rfl) (hcarry2_8 V c) t.val t rfl d,
    if_neg (by rw [notFresh2_8_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 1600000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl]
  have hN : t.val < 1024 := lt_of_lt_of_eq t.isLt (show cfg2.N = 1024 from N_2)
  by_cases h0 : t.val % 16 = 0
  · by_cases h1 : 1 ≤ t.val % 16
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [show (dat2 V c).leavesExact 8 t = owns (c : Thread nD τ) (ms2_8 t) fullShare ((dat2 V c).after 8 t) from by
      unfold Dat.leavesExact; rw [liveAt2_8_A t ((hcond2_0 t).mpr h0) (fun h => h1 ((hcond2_1 t).mp h))], after2_8]
      rw [outsAt2_A V c t h0 h1]
      unfold out2_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover2_A_8 c _ _ _ _ _ _ _ _ _ _ _ _ _ _ _ _ _ _ _ _ _ _ _ _ _ _ _ _ _)
  · by_cases h1 : 1 ≤ t.val % 16
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [show (dat2 V c).leavesExact 8 t = owns (c : Thread nD τ) (ms2_8 t) fullShare ((dat2 V c).after 8 t) from by
      unfold Dat.leavesExact; rw [liveAt2_8_B t (fun h => h0 ((hcond2_0 t).mp h)) ((hcond2_1 t).mpr h1)], after2_8]
      rw [outsAt2_B V c t h0 h1]
      simp only [before2_8_B V c t h0 h1]
      unfold out2_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v2, main_call0_v3, main_call0_v4, main_call0_v5, main_call0_v6, main_call0_v7, main_call0_v8]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call0_v10]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v0]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact (dat2 (V5 m ρ) c).withArrays_arrAt launch₀2.sharedIn _ (A_eq2 (V5 m ρ) c) w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays_shared`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution of @main terminates without a fault and ends with every unscoped buffer at the last boundary's
    contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨(fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c),
       (h.1 c _ (mem_uc main_arg5 (by decide))).trans (W7_main_arg5 m ρ c),
       (h.1 c _ (mem_uc main_arg6 (by decide))).trans (W7_main_arg6 m ρ c),
       (h.1 c _ (mem_uc main_arg7 (by decide))).trans (W7_main_arg7 m ρ c),
       (h.1 c _ (mem_uc main_arg8 (by decide))).trans (W7_main_arg8 m ρ c),
       (h.1 c _ (mem_uc main_arg9 (by decide))).trans (W7_main_arg9 m ρ c),
       (h.1 c _ (mem_uc main_arg10 (by decide))).trans (W7_main_arg10 m ρ c)⟩), h.2⟩) (run m ρ)

end Cert.KernelIdeal.Frame

end
-- ==== Proof.Frames.lean ====
/- The claims that speak of no value: the three programs run and leave their arguments, and the kernel's idealization is
   the printed kernel with one literal named. -/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

open Idealize.ShloMosaic Idealize.SL.Sem

namespace Cert.Proof

/-- The printed kernel runs, leaves its arguments and ends with every counter at zero. -/
theorem frame_kernel : Cert.quiescent_Kernel := fun m ρ _ => Cert.Kernel.Frame.frame m ρ

/-- So does its idealization. -/
theorem frame_kernel_ideal : Cert.quiescent_KernelIdeal := fun m ρ _ => Cert.KernelIdeal.Frame.frame m ρ

/-- So does the reference at the ideal instance: it has no counters at all. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one literal named: the distance given to a column outside the band is infinite. -/
theorem preserves : Cert.preserves_Kernel_KernelIdeal :=
  IdealRules.named_const.statement Cert.KernelIdeal.κ "far" .f32 0x5368D4A5#32 ⊤ rfl

end Cert.Proof

end
-- ==== Proof.Ranks.lean ====
/-
  The ranks the band kernel counts, in plain integers. A row looks back at 64 offsets; its distances stand on a ring
  of 128 columns, `far` outside the band. What the kernel adds up over the 63 rolls is, for a column of the band, the
  number of offsets ahead of it; in the first block, where every offset that would leave the sequence falls on its
  first position, a correction and a multiplicity stand for the repeated ones.
-/
module

public import Mathlib.Data.EReal.Basic
public import Mathlib.Algebra.BigOperators.Fin
public import Mathlib.Algebra.BigOperators.Intervals
public import Mathlib.Order.Interval.Finset.Nat
public import Mathlib.Tactic.Ring
public import Mathlib.Tactic.Linarith
public import Mathlib.Algebra.Order.BigOperators.Group.Finset

@[expose] public section

namespace Cert.Ranks

open Classical in
/-- The row's distances on the ring of columns: column `r + 64 - o` holds offset `o`'s. -/
noncomputable def ring (M r : Nat) (D : Nat → EReal) (c : Nat) : EReal :=
  if r + 64 - M ≤ c ∧ c ≤ r + 64 then D (r + 64 - c) else ⊤

open Classical in
/-- The number of offsets ahead of offset `o`: those nearer, and those as near at a smaller offset. -/
noncomputable def ahead (D : Nat → EReal) (o : Nat) : Nat :=
  ((Finset.range 64).filter fun p => D p < D o ∨ (D p = D o ∧ p < o)).card

open Classical in
/-- What the 63 rolls add up to at column `c`. -/
noncomputable def rolls (dp : Nat → EReal) (c : Nat) : Int :=
  63 + ∑ k ∈ Finset.range 63, ((if dp ((c + 128 - (k + 1)) % 128) < dp c then (1 : Int) else 0)
    - (if dp c < dp ((c + (k + 1)) % 128) then (1 : Int) else 0))

section
variable (M r : Nat) (D : Nat → EReal)

/-- The column an offset behind the row holds that offset's distance. -/
theorem ring_in (o : Nat) (ho : o ≤ M) (hM : M ≤ 63) : ring M r D (r + 64 - o) = D o := by
  unfold ring
  rw [if_pos (by omega)]
  congr 1
  omega

/-- A column outside the window is infinitely far. -/
theorem ring_out (c : Nat) (h : ¬ (r + 64 - M ≤ c ∧ c ≤ r + 64)) : ring M r D c = ⊤ := if_neg h

open Classical in
/-- The rolls to one side count the offsets beyond `o` that are strictly nearer. -/
theorem count_back (o : Nat) (ho : o ≤ M) (hM : M ≤ 63) (hr : r < 64) :
    ((Finset.range 63).filter fun k => ring M r D ((r + 64 - o + 128 - (k + 1)) % 128) < ring M r D (r + 64 - o)).card
      = ((Finset.range 64).filter fun p => o < p ∧ p ≤ M ∧ D p < D o).card := by
  have key : ∀ k < 63, (ring M r D ((r + 64 - o + 128 - (k + 1)) % 128) < ring M r D (r + 64 - o)
      ↔ o + (k + 1) ≤ M ∧ D (o + (k + 1)) < D o) := by
    intro k hk
    rw [ring_in M r D o ho hM]
    by_cases h : o + (k + 1) ≤ M
    · have e : (r + 64 - o + 128 - (k + 1)) % 128 = r + 64 - (o + (k + 1)) := by omega
      rw [e, ring_in M r D _ h hM]
      exact ⟨fun h' => ⟨h, h'⟩, fun h' => h'.2⟩
    · rw [ring_out]
      · exact ⟨fun h' => absurd h' not_top_lt, fun h' => absurd h'.1 h⟩
      · omega
  refine Finset.card_nbij' (fun k => o + (k + 1)) (fun p => p - o - 1) ?_ ?_ ?_ ?_
  · intro k hk
    simp only [Finset.coe_filter, Finset.mem_range, Set.mem_setOf_eq] at hk ⊢
    have := (key k hk.1).mp hk.2
    exact ⟨by omega, by omega, this.1, this.2⟩
  · intro p hp
    simp only [Finset.coe_filter, Finset.mem_range, Set.mem_setOf_eq] at hp ⊢
    have e : o + (p - o - 1 + 1) = p := by omega
    exact ⟨by omega, (key _ (by omega)).mpr (by rw [e]; exact ⟨hp.2.2.1, hp.2.2.2⟩)⟩
  · intro k hk
    simp only
    omega
  · intro p hp
    simp only [Finset.coe_filter, Finset.mem_range, Set.mem_setOf_eq] at hp ⊢
    omega

open Classical in
/-- The rolls to the other side leave out the offsets before `o` that are no farther. -/
theorem count_fwd (hD : ∀ p, D p < ⊤) (o : Nat) (ho : o ≤ M) (hM : M ≤ 63) (hr : r < 64) (hMr : r + 64 - M ≤ 64 ∨ M = 63) :
    ((Finset.range 63).filter fun k => ¬ ring M r D (r + 64 - o) < ring M r D ((r + 64 - o + (k + 1)) % 128)).card
      = ((Finset.range 64).filter fun p => p < o ∧ D p ≤ D o).card := by
  have key : ∀ k < 63, (¬ ring M r D (r + 64 - o) < ring M r D ((r + 64 - o + (k + 1)) % 128)
      ↔ k + 1 ≤ o ∧ D (o - (k + 1)) ≤ D o) := by
    intro k hk
    rw [ring_in M r D o ho hM]
    by_cases h : k + 1 ≤ o
    · have e : (r + 64 - o + (k + 1)) % 128 = r + 64 - (o - (k + 1)) := by omega
      rw [e, ring_in M r D _ (by omega) hM, not_lt]
      exact ⟨fun h' => ⟨h, h'⟩, fun h' => h'.2⟩
    · rw [ring_out]
      · exact ⟨fun h' => absurd (hD o) h', fun h' => absurd h'.1 h⟩
      · omega
  refine Finset.card_nbij' (fun k => o - (k + 1)) (fun p => o - p - 1) ?_ ?_ ?_ ?_
  · intro k hk
    simp only [Finset.coe_filter, Finset.mem_range, Set.mem_setOf_eq] at hk ⊢
    have := (key k hk.1).mp hk.2
    exact ⟨by omega, by omega, this.2⟩
  · intro p hp
    simp only [Finset.coe_filter, Finset.mem_range, Set.mem_setOf_eq] at hp ⊢
    have e : o - (o - p - 1 + 1) = p := by omega
    exact ⟨by omega, (key _ (by omega)).mpr (by rw [e]; exact ⟨by omega, hp.2.2⟩)⟩
  · intro k hk
    simp only [Finset.coe_filter, Finset.mem_range, Set.mem_setOf_eq] at hk ⊢
    have := (key k hk.1).mp hk.2
    omega
  · intro p hp
    simp only [Finset.coe_filter, Finset.mem_range, Set.mem_setOf_eq] at hp ⊢
    omega

open Classical in
/-- The offsets ahead of `o`: nearer-or-equal ones before it, nearer ones after it up to `M`, nearer ones beyond `M`. -/
theorem ahead_split (o : Nat) (ho : o ≤ M) :
    ahead D o = ((Finset.range 64).filter fun p => p < o ∧ D p ≤ D o).card
      + ((Finset.range 64).filter fun p => o < p ∧ p ≤ M ∧ D p < D o).card
      + ((Finset.range 64).filter fun p => M < p ∧ D p < D o).card := by
  unfold ahead
  simp only [Finset.card_filter]
  rw [← Finset.sum_add_distrib, ← Finset.sum_add_distrib]
  refine Finset.sum_congr rfl fun p _ => ?_
  rcases lt_trichotomy p o with h | rfl | h
  · have e : (D p < D o ∨ (D p = D o ∧ p < o)) ↔ D p ≤ D o := by
      rw [le_iff_lt_or_eq]
      simp [h]
    rw [if_congr e rfl rfl]
    simp [h, not_lt.mpr h.le, not_lt.mpr (h.le.trans ho)]
  · simp [not_lt.mpr ho]
  · have h' : ¬ p < o := not_lt.mpr h.le
    by_cases hp : p ≤ M
    · simp [h, h', hp, not_lt.mpr hp]
    · simp [h, h', hp, not_le.mp hp]

open Classical in
/-- What the rolls add up to at offset `o`'s column: the offsets ahead of it, those beyond `M` not counted. -/
theorem rolls_eq (hD : ∀ p, D p < ⊤) (o : Nat) (ho : o ≤ M) (hM : M ≤ 63) (hr : r < 64)
    (hMr : r + 64 - M ≤ 64 ∨ M = 63) :
    rolls (ring M r D) (r + 64 - o) = (((Finset.range 64).filter fun p => p < o ∧ D p ≤ D o).card
      + ((Finset.range 64).filter fun p => o < p ∧ p ≤ M ∧ D p < D o).card : Nat) := by
  rw [← count_back M r D o ho hM hr, ← count_fwd M r D hD o ho hM hr hMr]
  unfold rolls
  rw [Finset.sum_sub_distrib]
  have h1 := Finset.card_filter_add_card_filter_not (s := Finset.range 63)
    (fun k => ring M r D (r + 64 - o) < ring M r D ((r + 64 - o + (k + 1)) % 128))
  rw [Finset.card_range] at h1
  rw [← Finset.natCast_card_filter, ← Finset.natCast_card_filter]
  push_cast
  omega

/-- Away from the first block the rolls give the number of offsets ahead. -/
theorem rolls_full (hD : ∀ p, D p < ⊤) (o : Nat) (ho : o ≤ 63) (hr : r < 64) :
    rolls (ring 63 r D) (r + 64 - o) = ahead D o := by
  rw [rolls_eq 63 r D hD o ho le_rfl hr (Or.inr rfl), ahead_split 63 D o ho]
  have : ((Finset.range 64).filter fun p => 63 < p ∧ D p < D o) = ∅ := by
    ext p
    simp only [Finset.mem_filter, Finset.mem_range, Finset.notMem_empty, iff_false]
    omega
  convert rfl using 2
  simp only [this]
  rfl

open Classical in
/-- In the first block the correction makes up for the offsets that fall on the first position again. -/
theorem rolls_first (hD : ∀ p, D p < ⊤) (o : Nat) (ho : o ≤ r) (hr : r < 64) (hc : ∀ p, r ≤ p → D p = D r) :
    rolls (ring r r D) (r + 64 - o) + (if D r < D o then (63 - r : Int) else 0) = ahead D o := by
  rw [rolls_eq r r D hD o ho (by omega) hr (Or.inl (by omega)), ahead_split r D o ho]
  have e : ((Finset.range 64).filter fun p => r < p ∧ D p < D o).card = if D r < D o then 63 - r else 0 := by
    split
    · rename_i h
      have : ((Finset.range 64).filter fun p => r < p ∧ D p < D o) = Finset.Ico (r + 1) 64 := by
        ext p
        simp only [Finset.mem_filter, Finset.mem_range, Finset.mem_Ico]
        constructor
        · rintro ⟨h1, h2, -⟩
          omega
        · rintro ⟨h1, h2⟩
          exact ⟨h2, by omega, by rw [hc p (by omega)]; exact h⟩
      rw [this, Nat.card_Ico]
      omega
    · rename_i h
      rw [Finset.card_eq_zero]
      ext p
      simp only [Finset.mem_filter, Finset.mem_range, Finset.notMem_empty, iff_false]
      rintro ⟨-, h1, h2⟩
      rw [hc p h1.le] at h2
      exact h h2
  rw [e]
  split
  · push_cast
    rw [Nat.cast_sub (by omega)]
    push_cast
    ring
  · simp

/-- Repeated offsets are ranked one after the other. -/
theorem ahead_repeat (hc : ∀ p, r ≤ p → D p = D r) (j : Nat) (hj : r + j < 64) :
    ahead D (r + j) = ahead D r + j := by
  classical
  unfold ahead
  rw [hc (r + j) (by omega)]
  have : ((Finset.range 64).filter fun p => D p < D r ∨ (D p = D r ∧ p < r + j))
      = ((Finset.range 64).filter fun p => D p < D r ∨ (D p = D r ∧ p < r)) ∪ Finset.Ico r (r + j) := by
    ext p
    simp only [Finset.mem_filter, Finset.mem_range, Finset.mem_union, Finset.mem_Ico]
    by_cases h : r ≤ p
    · simp only [hc p h, lt_self_iff_false, true_and, false_or, h]
      omega
    · have h' : p < r := by omega
      simp only [h, h', false_and, or_false]
      constructor
      · rintro ⟨h1, h2⟩
        exact ⟨h1, h2.imp_right fun h => ⟨h.1, trivial⟩⟩
      · rintro ⟨h1, h2⟩
        exact ⟨h1, h2.imp_right fun h => ⟨h.1, by omega⟩⟩
  have hd : Disjoint ((Finset.range 64).filter fun p => D p < D r ∨ (D p = D r ∧ p < r)) (Finset.Ico r (r + j)) := by
    rw [Finset.disjoint_left]
    intro p hp hq
    simp only [Finset.mem_filter, Finset.mem_Ico] at hp hq
    rw [hc p hq.1] at hp
    rcases hp.2 with h | h
    · exact lt_irrefl _ h
    · omega
  convert Finset.card_union_of_disjoint hd using 1
  · convert rfl using 2
    rw [← this]
  · rw [Nat.card_Ico]
    simp

/-- No offset has more than 63 ahead of it. -/
theorem ahead_le (o : Nat) : ahead D o ≤ 64 := by
  unfold ahead
  exact (Finset.card_filter_le _ _).trans (by simp)

end

end Cert.Ranks
-- ==== Proof.Model.lean ====
/-
  The layer's mathematics as plain functions of the arguments' entries, named for both programs to meet at.
-/
module

public import Idealize.ShloMosaic.Lib.Pointwise
public import proofs.«01_k».proof.Proof.Ranks

@[expose] public section

noncomputable section

namespace Cert.Model

open Idealize.ShloMosaic Cert.Ranks

/-- The arguments' entries. -/
structure Args where
  x : Fin 4096 → Fin 1024 → EReal
  wq : Fin 16 → Fin 1024 → Fin 64 → EReal
  wv : Fin 16 → Fin 1024 → Fin 64 → EReal
  w1 : Fin 512 → Fin 1024 → EReal
  b1 : Fin 512 → EReal
  w2 : Fin 1024 → Fin 512 → EReal
  b2 : Fin 1024 → EReal
  base : Fin 16 → Fin 64 → EReal
  dec : Fin 1024 → Fin 1024 → EReal
  hu : Fin 16 → Fin 64 → Fin 16 → EReal
  hv : Fin 16 → Fin 16 → Fin 64 → EReal

/-- The number a single-precision word stands for. -/
abbrev lit (w : BitVec 32) : EReal := Ideal.ofBits .f32 w

/-- The head of a flat latent position. -/
abbrev hd (x : Fin 1024) : Fin 16 := ⟨x.val / 64, by omega⟩
/-- The channel of a flat latent position. -/
abbrev ch (x : Fin 1024) : Fin 64 := ⟨x.val % 64, by omega⟩
/-- The flat position of a head's channel. -/
abbrev fl (h : Fin 16) (d : Fin 64) : Fin 1024 := ⟨h.val * 64 + d.val, by omega⟩
/-- The position an offset back from another, at the sequence's start if there is none. -/
abbrev back (t : Fin 4096) (o : ℕ) : Fin 4096 := ⟨t.val - o, by omega⟩

variable (A : Args)

/-- The query latents. -/
def q (h : Fin 16) (t : Fin 4096) (d : Fin 64) : EReal := max (∑ k, A.x t k * A.wq h k d) 0
/-- The value latents. -/
def v (h : Fin 16) (t : Fin 4096) (d : Fin 64) : EReal := max (∑ k, A.x t k * A.wv h k d) 0
/-- A head's feature: the mean over the sequence and half the mean over every eighth position. -/
def fs (h : Fin 16) (d : Fin 64) : EReal :=
  Ideal.div (∑ t, q A h t d) (lit 0x45800000#32)
    + lit 0x3F000000#32 * Ideal.div (∑ j : Fin 512, q A h ⟨8 * j.val, by omega⟩ d) (lit 0x44000000#32)
/-- The first layer before its activation. -/
def z1 (j : Fin 512) : EReal := ∑ x, fs A (hd x) (ch x) * A.w1 j x + A.b1 j
/-- The first layer. -/
def h1 (j : Fin 512) : EReal :=
  lit 0x3F000000#32 * z1 A j * (1 + Ideal.erf (Ideal.div (z1 A j) (Ideal.sqrt (lit 0x40000000#32))))
/-- The metric before its softplus. -/
def z (h : Fin 16) (d : Fin 64) : EReal :=
  A.base h d + lit 0x3DCCCCCD#32 * (∑ j, h1 A j * A.w2 (fl h d) j + A.b2 (fl h d))
/-- The metric. -/
def met (h : Fin 16) (d : Fin 64) : EReal :=
  max (z A h d) 0 + Ideal.log1p (Ideal.exp (-(FloatOps.absf (F := Ideal) (φ := .f32) (z A h d))))
/-- The distance of a position's latents to those an offset back. -/
def near (h : Fin 16) (t : Fin 4096) (o : ℕ) : EReal :=
  Ideal.sqrt ((∑ d, (q A h (back t o) d - q A h t d) * (q A h (back t o) d - q A h t d) * met A h d)
    + lit 0x322BCC77#32)
/-- The influence of an offset before normalizing: none unless fewer than 32 are ahead of it. -/
def infl (h : Fin 16) (t : Fin 4096) (o : ℕ) : EReal :=
  if ahead (near A h t) o < 32 then Ideal.exp (-(near A h t o)) else 0
/-- The normalizer. -/
def tot (h : Fin 16) (t : Fin 4096) : EReal := ∑ o : Fin 64, infl A h t o.val + lit 0x322BCC77#32
/-- The attended values. -/
def ctx (h : Fin 16) (t : Fin 4096) (d : Fin 64) : EReal :=
  ∑ o : Fin 64, if ahead (near A h t) o.val < 32
    then Ideal.div (Ideal.exp (-(near A h t o.val))) (tot A h t) * v A h (back t o.val) d else 0
/-- The norm of a position's query latents. -/
def nrm (h : Fin 16) (t : Fin 4096) : EReal := Ideal.sqrt (∑ d, q A h t d * q A h t d + lit 0x179ABE15#32)
/-- Whether that norm is large enough for the Hebbian term. -/
def gate (h : Fin 16) (t : Fin 4096) : EReal := if lit 0x3E4CCCCD#32 < nrm A h t then 1 else 0
/-- The Hebbian matrix. -/
def hm (h : Fin 16) (d e : Fin 64) : EReal := ∑ r, A.hu h d r * A.hv h r e
/-- The Hebbian term. -/
def hctx (h : Fin 16) (t : Fin 4096) (e : Fin 64) : EReal :=
  ∑ d, Ideal.div (q A h t d) (max (nrm A h t) (lit 0x2B8CBCCC#32)) * hm A h d e
/-- The gated context. -/
def lat (h : Fin 16) (t : Fin 4096) (d : Fin 64) : EReal :=
  q A h t d * (ctx A h t d + gate A h t * lit 0x3DCCCCCD#32 * hctx A h t d)
/-- The layer's result. -/
def out (t : Fin 4096) (e : Fin 1024) : EReal := ∑ x, lat A (hd x) t (ch x) * A.dec x e

end Cert.Model
-- ==== Proof.Enc.lean ====
/-
  The encoder call's four results at an index.
-/
module

public import proofs.«01_k».proof.Proof.KernelIdealFrame
public import proofs.«01_k».proof.Proof.Model
public import Idealize.ShloMosaic.Lib.Pointwise
public import Idealize.ShloMosaic.Lib.WordCmp
public import Idealize.ShloMosaic.Lib.WordArith
public import Idealize.ShloMosaic.Lib.Tactic.WordOmega
public import Idealize.ShloMosaic.Lib.Pipeline.ValueKit

@[expose] public section

set_option maxRecDepth 16384

noncomputable section

namespace Cert.Kern

open Cert.KernelIdeal Cert.KernelIdeal.Gen Cert.KernelIdeal.Frame Idealize.ShloMosaic Idealize.ShloMosaic.TcCoe Idealize.SL.Sem
open Cert.Model

/-- The query latents of one head, from the rows and that head's weights. -/
theorem k0_pay3_at (x0 : Vec Ideal S4096x1024 .f32) (x1 : Vec Ideal S1x1024x64 .f32) (t : Fin 4096) (d : Fin 64) :
    k0_pay3 (F := Ideal) x0 x1 (ix2 t d) = max (∑ k : Fin 1024, (x0 (ix2 t k) : EReal) * x1 (ix3 0 k d)) 0 := by
  pointwise [k0_pay3, k0_pay2]

/-- The stored query block. -/
theorem k0_pay4_at (x0 : Vec Ideal S4096x1024 .f32) (x1 : Vec Ideal S1x1024x64 .f32) (t : Fin 4096) (d : Fin 64) :
    k0_pay4 (F := Ideal) x0 x1 (ix3 0 t d) = max (∑ k : Fin 1024, (x0 (ix2 t k) : EReal) * x1 (ix3 0 k d)) 0 := by
  pointwise [k0_pay4, k0_pay3_at]

/-- The stored value block. -/
theorem k0_pay5_at (x0 : Vec Ideal S4096x1024 .f32) (x1 : Vec Ideal S1x1024x64 .f32) (t : Fin 4096) (d : Fin 64) :
    k0_pay5 (F := Ideal) x0 x1 (ix3 0 t d) = max (∑ k : Fin 1024, (x0 (ix2 t k) : EReal) * x1 (ix3 0 k d)) 0 := by
  pointwise [k0_pay5, k0_pay2]

/-- The stored sum over all rows. -/
theorem k0_pay6_at (x0 : Vec Ideal S4096x1024 .f32) (x1 : Vec Ideal S1x1024x64 .f32) (d : Fin 64) :
    k0_pay6 (F := Ideal) x0 x1 (ix3 0 0 d)
      = ∑ t : Fin 4096, max (∑ k : Fin 1024, (x0 (ix2 t k) : EReal) * x1 (ix3 0 k d)) 0 := by
  pointwise [k0_pay6, k0_pay3_at]

/-- The kernel's test whether a row is divisible by eight. -/
theorem eighth (x : Fin 4096) :
    IntOp.cmpi .eq (Scalar.select (IntOp.andi (IntOp.xori (IntOp.cmpi .slt (IntOp.remsi .vector (BitVec.ofNat 32 x.val)
        (Scalar.select (Scalar.cmpi .eq 8#32 0#32) 1#32 8#32)) 0#32)
        (Scalar.cmpi .slt (Scalar.select (Scalar.cmpi .eq 8#32 0#32) 1#32 8#32) 0#32))
        (IntOp.cmpi .ne (IntOp.remsi .vector (BitVec.ofNat 32 x.val) (Scalar.select (Scalar.cmpi .eq 8#32 0#32) 1#32 8#32)) 0#32))
        (IntOp.addi (IntOp.remsi .vector (BitVec.ofNat 32 x.val) (Scalar.select (Scalar.cmpi .eq 8#32 0#32) 1#32 8#32))
          (Scalar.select (Scalar.cmpi .eq 8#32 0#32) 1#32 8#32))
        (IntOp.remsi .vector (BitVec.ofNat 32 x.val) (Scalar.select (Scalar.cmpi .eq 8#32 0#32) 1#32 8#32))) 0#32
      = BitVec.ofBool (decide (x.val % 8 = 0)) := by
  revert x
  decide +kernel

/-- The stored sum over the rows divisible by eight. -/
theorem k0_pay1_at (v6 : Vec Ideal S4096x64 .f32) (d : Fin 64) :
    k0_pay1 (F := Ideal) v6 (Scalar.select (Scalar.cmpi .eq 8#32 0#32) 1#32 8#32) k0_pay7 k0_pay8 (ix3 0 0 d)
      = ∑ t : Fin 4096, (if t.val % 8 = 0 then (v6 (ix2 t d) : EReal) else 0) := by
  pointwise [k0_pay1, k0_pay7, k0_pay8]
  refine Finset.sum_congr rfl fun x _ => ?_
  rw [eighth]
  by_cases h : x.val % 8 = 0 <;> simp [h, Scalar.select]

/-- One term in eight of a sum over 4096, counted by the eighths. -/
theorem sum_eighths (f : Fin 4096 → EReal) :
    ∑ t : Fin 4096, (if t.val % 8 = 0 then f t else 0) = ∑ j : Fin 512, f ⟨8 * j.val, by omega⟩ := by
  rw [← Finset.sum_filter]
  refine (Finset.sum_bij (fun (j : Fin 512) _ => (⟨8 * j.val, by omega⟩ : Fin 4096)) (fun j _ => ?_) (fun a _ b _ e => ?_) (fun t ht => ?_) (fun _ _ => rfl)).symm
  · simp
  · have := congrArg Fin.val e
    exact Fin.ext (by simp only at this; omega)
  · have := (Finset.mem_filter.mp ht).2
    exact ⟨⟨t.val / 8, by omega⟩, Finset.mem_univ _, Fin.ext (by simp only; omega)⟩

variable (V : (c : Dev nD) → (b : Ref sig .tc) → Buf (Elt Ideal) ((c : Thread nD τ).loc b)) (c : Dev nD)

/-- Window 0 holds all rows at every point. -/
theorem index0_0 : ∀ t : Fin cfg0.N, win0_0.index t = ![0, 0] := (by decide +kernel : ∀ t : Fin grid0.N, win0_0.index t = ![0, 0])
/-- Window 1 holds the query weights of the point's head. -/
theorem index0_1 : ∀ t : Fin cfg0.N, win0_1.index t = ![t.val, 0, 0] := (by decide +kernel : ∀ t : Fin grid0.N, win0_1.index t = ![t.val, 0, 0])
/-- Window 2 holds the value weights of the point's head. -/
theorem index0_2 : ∀ t : Fin cfg0.N, win0_2.index t = ![t.val, 0, 0] := (by decide +kernel : ∀ t : Fin grid0.N, win0_2.index t = ![t.val, 0, 0])
/-- Window 3 takes the query latents of the point's head. -/
theorem index0_3 : ∀ t : Fin cfg0.N, win0_3.index t = ![t.val, 0, 0] := (by decide +kernel : ∀ t : Fin grid0.N, win0_3.index t = ![t.val, 0, 0])
/-- Window 4 takes the value latents of the point's head. -/
theorem index0_4 : ∀ t : Fin cfg0.N, win0_4.index t = ![t.val, 0, 0] := (by decide +kernel : ∀ t : Fin grid0.N, win0_4.index t = ![t.val, 0, 0])
/-- Window 5 takes the column sums of the point's head. -/
theorem index0_5 : ∀ t : Fin cfg0.N, win0_5.index t = ![t.val, 0, 0] := (by decide +kernel : ∀ t : Fin grid0.N, win0_5.index t = ![t.val, 0, 0])
/-- Window 6 takes the sums over every eighth row of the point's head. -/
theorem index0_6 : ∀ t : Fin cfg0.N, win0_6.index t = ![t.val, 0, 0] := (by decide +kernel : ∀ t : Fin grid0.N, win0_6.index t = ![t.val, 0, 0])

/-- A head's latents from the region's input rows and one weight array. -/
def latent (x : S4096x1024.Idx → EReal) (w : S16x1024x64.Idx → EReal) (h : Fin 16) (t : Fin 4096) (d : Fin 64) : EReal :=
  max (∑ k : Fin 1024, x (ix2 t k) * w (ix3 h k d)) 0

/-- The head of a grid point. -/
def headOf (t : Fin cfg0.N) : Fin 16 := ⟨t.val, t.isLt⟩

/-- The rows a point reads are the input's. -/
theorem iblk0_0_at (t : Fin cfg0.N) (r : Fin 4096) (k : Fin 1024) : iblk0 V c 0 t (ix2 r k) = V c main_call0_v0 (ix2 r k) := by
  blk_simp [iblk0]
  blk_ext [index0_0]

/-- The query weights a point reads are its head's. -/
theorem iblk0_1_at (t : Fin cfg0.N) (k : Fin 1024) (d : Fin 64) : iblk0 V c 1 t (ix3 0 k d) = V c main_arg1 (ix3 (headOf t) k d) := by
  blk_simp [iblk0]
  blk_ext [index0_1, headOf]

/-- The value weights a point reads are its head's. -/
theorem iblk0_2_at (t : Fin cfg0.N) (k : Fin 1024) (d : Fin 64) : iblk0 V c 2 t (ix3 0 k d) = V c main_arg2 (ix3 (headOf t) k d) := by
  blk_simp [iblk0]
  blk_ext [index0_2, headOf]

/-- Where a point's query latents go. -/
theorem emb0_3 (t : Fin cfg0.N) (r : Fin 4096) (d : Fin 64) : (win0_3.blk t).view.emb (ix3 0 r d) = ix3 (headOf t) r d := by
  blk_ext [index0_3, headOf]

/-- Where a point's value latents go. -/
theorem emb0_4 (t : Fin cfg0.N) (r : Fin 4096) (d : Fin 64) : (win0_4.blk t).view.emb (ix3 0 r d) = ix3 (headOf t) r d := by
  blk_ext [index0_4, headOf]

/-- Where a point's column sums go. -/
theorem emb0_5 (t : Fin cfg0.N) (d : Fin 64) : (win0_5.blk t).view.emb (ix3 0 0 d) = ix3 (headOf t) 0 d := by
  blk_ext [index0_5, headOf]

/-- Where a point's sums over every eighth row go. -/
theorem emb0_6 (t : Fin cfg0.N) (d : Fin 64) : (win0_6.blk t).view.emb (ix3 0 0 d) = ix3 (headOf t) 0 d := by
  blk_ext [index0_6, headOf]

/-- An index of a block with one head. -/
theorem one_head (y : S1x4096x64.Idx) : ∃ (r : Fin 4096) (d : Fin 64), y = ix3 0 r d :=
  ⟨y 1, y 2, (eq_ix3 y).trans (by rw [Fin.fin_one_eq_zero (y 0)])⟩

/-- An index of a block with one head and one row. -/
theorem one_row (y : S1x1x64.Idx) : ∃ d : Fin 64, y = ix3 0 0 d :=
  ⟨y 2, (eq_ix3 y).trans (by rw [Fin.fin_one_eq_zero (y 0), Fin.fin_one_eq_zero (y 1)])⟩

/-- The query array after the region. -/
theorem enc_q (h : Fin 16) (t : Fin 4096) (d : Fin 64) :
    (dat0 V c).arrAt 3 cfg0.N (ix3 h t d) = latent (V c main_call0_v0) (V c main_arg1) h t d := by
  have H : (dat0 V c).arrAt 3 cfg0.N = fun j : S16x4096x64.Idx => latent (V c main_call0_v0) (V c main_arg1) (j 0) (j 1) (j 2) := by
    refine (dat0 V c).arrAt_eq_of_covers 3 _ (by decide +kernel) fun t hf y => ?_
    blk_simp
    rw [after0_3]
    unfold out0_3
    rw [View.canon_unit_zero (by decide), View.ld_unit_zero (by decide), View.ld_unit_zero (by decide)]
    obtain ⟨r, d, rfl⟩ := one_head y
    rw [emb0_3]
    refine (k0_pay4_at _ _ r d).trans ?_
    simp only [iblk0_0_at, iblk0_1_at]
    rfl
  exact congrFun H _

/-- The value array after the region. -/
theorem enc_v (h : Fin 16) (t : Fin 4096) (d : Fin 64) :
    (dat0 V c).arrAt 4 cfg0.N (ix3 h t d) = latent (V c main_call0_v0) (V c main_arg2) h t d := by
  have H : (dat0 V c).arrAt 4 cfg0.N = fun j : S16x4096x64.Idx => latent (V c main_call0_v0) (V c main_arg2) (j 0) (j 1) (j 2) := by
    refine (dat0 V c).arrAt_eq_of_covers 4 _ (by decide +kernel) fun t hf y => ?_
    blk_simp
    rw [after0_4]
    unfold out0_4
    rw [View.canon_unit_zero (by decide), View.ld_unit_zero (by decide), View.ld_unit_zero (by decide)]
    obtain ⟨r, d, rfl⟩ := one_head y
    rw [emb0_4]
    refine (k0_pay5_at _ _ r d).trans ?_
    simp only [iblk0_0_at, iblk0_2_at]
    rfl
  exact congrFun H _

/-- The array of sums over all rows after the region. -/
theorem enc_s1 (h : Fin 16) (d : Fin 64) :
    (dat0 V c).arrAt 5 cfg0.N (ix3 h 0 d) = ∑ t : Fin 4096, latent (V c main_call0_v0) (V c main_arg1) h t d := by
  have H : (dat0 V c).arrAt 5 cfg0.N = fun j : S16x1x64.Idx => ∑ t : Fin 4096, latent (V c main_call0_v0) (V c main_arg1) (j 0) t (j 2) := by
    refine (dat0 V c).arrAt_eq_of_covers 5 _ (by decide +kernel) fun t hf y => ?_
    blk_simp
    rw [after0_5]
    unfold out0_5
    rw [View.canon_unit_zero (by decide), View.ld_unit_zero (by decide), View.ld_unit_zero (by decide)]
    obtain ⟨d, rfl⟩ := one_row y
    rw [emb0_5]
    refine (k0_pay6_at _ _ d).trans ?_
    simp only [iblk0_0_at, iblk0_1_at]
    rfl
  exact congrFun H _

/-- The array of sums over every eighth row after the region. -/
theorem enc_s2 (h : Fin 16) (d : Fin 64) :
    (dat0 V c).arrAt 6 cfg0.N (ix3 h 0 d)
      = ∑ j : Fin 512, latent (V c main_call0_v0) (V c main_arg1) h ⟨8 * j.val, by omega⟩ d := by
  have H : (dat0 V c).arrAt 6 cfg0.N = fun j : S16x1x64.Idx =>
      ∑ i : Fin 512, latent (V c main_call0_v0) (V c main_arg1) (j 0) ⟨8 * i.val, by omega⟩ (j 2) := by
    refine (dat0 V c).arrAt_eq_of_covers 6 _ (by decide +kernel) fun t hf y => ?_
    blk_simp
    rw [after0_6]
    unfold out0_6
    rw [View.canon_unit_zero (by decide), View.ld_unit_zero (by decide), View.ld_unit_zero (by decide)]
    obtain ⟨d, rfl⟩ := one_row y
    rw [emb0_6]
    refine (k0_pay1_at _ d).trans ?_
    refine (sum_eighths _).trans ?_
    simp only [k0_pay3_at, iblk0_0_at, iblk0_1_at]
    rfl
  exact congrFun H _

end Cert.Kern
-- ==== Proof.Metric.lean ====
/-
  The metric call's result at an index.
-/
module

public import proofs.«01_k».proof.Proof.KernelIdealFrame
public import proofs.«01_k».proof.Proof.Model
public import Idealize.ShloMosaic.Lib.Pointwise
public import Idealize.ShloMosaic.Lib.Pipeline.ValueKit

@[expose] public section

set_option maxRecDepth 16384

noncomputable section

namespace Cert.Kern

open Cert.KernelIdeal Cert.KernelIdeal.Gen Cert.KernelIdeal.Frame Idealize.ShloMosaic Idealize.ShloMosaic.TcCoe Idealize.SL.Sem
open Cert.Model

/-- The first layer before its activation, over flat rows. -/
def flatZ1 (s1 s2 : S1x1024.Idx → EReal) (w1 : S1024x512.Idx → EReal) (b1 : S1x512.Idx → EReal) (j : Fin 512) : EReal :=
  (∑ x : Fin 1024, (Ideal.div (s1 (ix2 0 x)) (lit 0x45800000#32) + lit 0x3F000000#32 * Ideal.div (s2 (ix2 0 x)) (lit 0x44000000#32)) * w1 (ix2 x j)) + b1 (ix2 0 j)

/-- The metric before its softplus, over flat rows. -/
def flatZ (s1 s2 : S1x1024.Idx → EReal) (w1 : S1024x512.Idx → EReal) (b1 : S1x512.Idx → EReal)
    (w2 : S512x1024.Idx → EReal) (b2 base : S1x1024.Idx → EReal) (x : Fin 1024) : EReal :=
  base (ix2 0 x) + lit 0x3DCCCCCD#32 * ((∑ j : Fin 512, (lit 0x3F000000#32 * flatZ1 s1 s2 w1 b1 j
    * (1 + Ideal.erf (Ideal.div (flatZ1 s1 s2 w1 b1 j) (Ideal.sqrt (lit 0x40000000#32))))) * w2 (ix2 j x)) + b2 (ix2 0 x))

/-- Only the entries count. -/
theorem flatZ_congr {s1 s2 s1' s2' : S1x1024.Idx → EReal} {w1 w1' : S1024x512.Idx → EReal} {b1 b1' : S1x512.Idx → EReal}
    {w2 w2' : S512x1024.Idx → EReal} {b2 base b2' base' : S1x1024.Idx → EReal}
    (e1 : ∀ x : Fin 1024, s1 (ix2 0 x) = s1' (ix2 0 x)) (e2 : ∀ x : Fin 1024, s2 (ix2 0 x) = s2' (ix2 0 x))
    (e3 : ∀ (x : Fin 1024) (j : Fin 512), w1 (ix2 x j) = w1' (ix2 x j)) (e4 : ∀ j : Fin 512, b1 (ix2 0 j) = b1' (ix2 0 j))
    (e5 : ∀ (j : Fin 512) (x : Fin 1024), w2 (ix2 j x) = w2' (ix2 j x)) (e6 : ∀ x : Fin 1024, b2 (ix2 0 x) = b2' (ix2 0 x))
    (e7 : ∀ x : Fin 1024, base (ix2 0 x) = base' (ix2 0 x)) (x : Fin 1024) :
    flatZ s1 s2 w1 b1 w2 b2 base x = flatZ s1' s2' w1' b1' w2' b2' base' x := by
  unfold flatZ flatZ1
  simp only [e1, e2, e3, e4, e5, e6, e7]

/-- The softplus of one entry. -/
def soft (z : EReal) : EReal := max z 0 + Ideal.log1p (Ideal.exp (-(FloatOps.absf (F := Ideal) (φ := .f32) z)))

/-- The value before the softplus at a flat position. -/
theorem k1_pay2_at (s1 s2 : Vec Ideal S1x1024 .f32) (w1 : Vec Ideal S1024x512 .f32) (b1 : Vec Ideal S1x512 .f32)
    (w2 : Vec Ideal S512x1024 .f32) (b2 base : Vec Ideal S1x1024 .f32) (x : Fin 1024) :
    k1_pay2 (F := Ideal) s1 s2 w1 b1 w2 b2 base (ix2 0 x) = flatZ s1 s2 w1 b1 w2 b2 base x := by
  pointwise [k1_pay2, flatZ, flatZ1]
  rfl

/-- The softplus at a flat position. -/
theorem k1_pay1_at (z : Vec Ideal S1x1024 .f32) (x : Fin 1024) :
    k1_pay1 (F := Ideal) z (ix2 0 x) = soft (z (ix2 0 x)) := by
  pointwise [k1_pay1]
  rw [if_neg (fun h => h rfl), soft, zero_sub]

variable (V : (c : Dev nD) → (b : Ref sig .tc) → Buf (Elt Ideal) ((c : Thread nD τ).loc b)) (c : Dev nD)

/-- The launch has one point, and every window holds its whole array. -/
theorem index1 (t : Fin cfg1.N) : win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] :=
  (by decide +kernel : ∀ t : Fin grid1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0]) t

/-- The column sums are read whole. -/
theorem iblk1_0_at (t : Fin cfg1.N) (r : Fin 1) (k : Fin 1024) : iblk1 V c 0 t (ix2 r k) = V c main_call0_v2 (ix2 r k) := by
  blk_simp [iblk1]
  blk_ext [(index1 t).1]
/-- The sums over every eighth row are read whole. -/
theorem iblk1_1_at (t : Fin cfg1.N) (r : Fin 1) (k : Fin 1024) : iblk1 V c 1 t (ix2 r k) = V c main_call0_v3 (ix2 r k) := by
  blk_simp [iblk1]
  blk_ext [(index1 t).2.1]
/-- The first weights are read whole. -/
theorem iblk1_2_at (t : Fin cfg1.N) (r : Fin 1024) (k : Fin 512) : iblk1 V c 2 t (ix2 r k) = V c main_call0_v4 (ix2 r k) := by
  blk_simp [iblk1]
  blk_ext [(index1 t).2.2.1]
/-- The first bias is read whole. -/
theorem iblk1_3_at (t : Fin cfg1.N) (r : Fin 1) (k : Fin 512) : iblk1 V c 3 t (ix2 r k) = V c main_call0_v5 (ix2 r k) := by
  blk_simp [iblk1]
  blk_ext [(index1 t).2.2.2.1]
/-- The second weights are read whole. -/
theorem iblk1_4_at (t : Fin cfg1.N) (r : Fin 512) (k : Fin 1024) : iblk1 V c 4 t (ix2 r k) = V c main_call0_v6 (ix2 r k) := by
  blk_simp [iblk1]
  blk_ext [(index1 t).2.2.2.2.1]
/-- The second bias is read whole. -/
theorem iblk1_5_at (t : Fin cfg1.N) (r : Fin 1) (k : Fin 1024) : iblk1 V c 5 t (ix2 r k) = V c main_call0_v7 (ix2 r k) := by
  blk_simp [iblk1]
  blk_ext [(index1 t).2.2.2.2.2.1]
/-- The base metric is read whole. -/
theorem iblk1_6_at (t : Fin cfg1.N) (r : Fin 1) (k : Fin 1024) : iblk1 V c 6 t (ix2 r k) = V c main_call0_v8 (ix2 r k) := by
  blk_simp [iblk1]
  blk_ext [(index1 t).2.2.2.2.2.2.1]
/-- The metric is written whole. -/
theorem emb1_7 (t : Fin cfg1.N) (x : Fin 1024) : (win1_7.blk t).view.emb (ix2 0 x) = ix2 0 x := by
  blk_ext [(index1 t).2.2.2.2.2.2.2]

/-- The metric array after the region. -/
theorem metric_arr (x : Fin 1024) :
    (dat1 V c).arrAt 7 cfg1.N (ix2 0 x) = soft (flatZ (V c main_call0_v2) (V c main_call0_v3) (V c main_call0_v4) (V c main_call0_v5)
      (V c main_call0_v6) (V c main_call0_v7) (V c main_call0_v8) x) := by
  have H : (dat1 V c).arrAt 7 cfg1.N = fun j : S1x1024.Idx => soft (flatZ (V c main_call0_v2) (V c main_call0_v3) (V c main_call0_v4) (V c main_call0_v5)
      (V c main_call0_v6) (V c main_call0_v7) (V c main_call0_v8) (j 1)) := by
    refine (dat1 V c).arrAt_eq_of_covers 7 _ (by decide +kernel) fun t hf y => ?_
    blk_simp
    rw [after1_7]
    unfold out1_7
    rw [View.canon_unit_zero (by decide)]
    repeat rw [View.ld_unit_zero (by decide)]
    obtain ⟨x, rfl⟩ : ∃ x : Fin 1024, y = ix2 0 x :=
      ⟨y 1, (eq_ix2 (n0 := 1) (n1 := 1024) y).trans (by rw [Fin.fin_one_eq_zero (y 0)])⟩
    rw [emb1_7]
    refine (k1_pay1_at _ x).trans ?_
    rw [k1_pay2_at]
    exact congrArg soft (flatZ_congr (fun _ => iblk1_0_at V c t _ _) (fun _ => iblk1_1_at V c t _ _) (fun _ _ => iblk1_2_at V c t _ _)
      (fun _ => iblk1_3_at V c t _ _) (fun _ _ => iblk1_4_at V c t _ _) (fun _ => iblk1_5_at V c t _ _) (fun _ => iblk1_6_at V c t _ _) x)
  exact congrFun H _

end Cert.Kern
-- ==== Proof.Chain.lean ====
/-
  The kernel's rank word: 63 rotations of the distances, each compared once.
-/
module

public import proofs.«01_k».proof.Proof.Gen.KernelIdeal.Skeleton
public import proofs.«01_k».proof.Proof.Ranks
public import Idealize.ShloMosaic.Lib.Pointwise
public import Idealize.ShloMosaic.Lib.WordCmp
public import Idealize.ShloMosaic.Lib.WordArith
public import Idealize.ShloMosaic.Lib.Tactic.WordOmega

@[expose] public section

set_option maxRecDepth 16384

noncomputable section

namespace Cert.Kern

open Cert.KernelIdeal Cert.KernelIdeal.Gen Idealize.ShloMosaic Idealize.ShloMosaic.TcCoe Idealize.SL.Sem
open Cert.Ranks

section generic
variable {F : FTy → Type} [FloatOps F] [Named F]

/-- The distances rotated by an amount, compared with the distances in place. -/
def ahd (x : FVec F S64x128 .f32) (n : BitVec 32) : IVec S64x128 32 :=
  extui 32 (cmpf .olt (dynamicRotate 1 n none x rotates_S64x128_d1) x) natLt_1_32

/-- A comparison word rotated back. -/
def bck (w : IVec S64x128 32) (n : BitVec 32) : IVec S64x128 32 := dynamicRotate 1 n none w rotates_S64x128_d1

/-- The rank after the first rotations. -/
def rollAcc (x : FVec F S64x128 .f32) : ℕ → IVec S64x128 32
  | 0 => broadcast S64x128 63#32
  | k + 1 => addi (rollAcc x k) (subi (ahd x (BitVec.ofNat 32 (k + 1))) (bck (ahd x (BitVec.ofNat 32 (k + 1))) (BitVec.ofNat 32 (127 - k))))

/-- The rank's correction in the first block. -/
def fix (rr : IVec S64x128 32) (first : BitVec 1) (x x0 : FVec F S64x128 .f32) : IVec S64x128 32 :=
  select (andi (andi (broadcast S64x128 first) (cmpi .slt rr (broadcast S64x128 63#32))) (cmpf .olt x0 x))
    (subi (broadcast S64x128 63#32) rr) (broadcast S64x128 0#32)

variable (d : FVec F S64x128 .f32) (cc : IVec S64x128 32) (uu : IVec S64x128 32) (b : BitVec 1) (z : BitVec 32)

/-- Four rotations of the rank are done by the eighth value of the body. -/
theorem chain_8 : k2_pay8 d cc uu b z = rollAcc (k2_pay6 d cc uu b z) 4 := rfl
/-- The ninth value compares the fifth rotation. -/
theorem chain_9 : k2_pay9 d cc uu b z = ahd (k2_pay6 d cc uu b z) 5#32 := rfl
/-- The tenth rotates that comparison back. -/
theorem chain_10 : k2_pay10 d cc uu b z = bck (ahd (k2_pay6 d cc uu b z) 5#32) 123#32 := rfl

variable (x : FVec F S64x128 .f32)

/-- Four rotations, and the fifth with its return, make twelve in the next value. -/
theorem chain_11 : k2_pay11 x (rollAcc x 4) (ahd x 5#32) (bck (ahd x 5#32) 123#32) = rollAcc x 12 := rfl
/-- Twelve rotations become nineteen. -/
theorem chain_13 : k2_pay13 x (rollAcc x 12) (k2_pay12 x) = rollAcc x 19 := rfl
/-- Nineteen rotations become twenty-seven. -/
theorem chain_16 : k2_pay16 x (rollAcc x 19) (k2_pay14 x) (k2_pay15 x) = rollAcc x 27 := rfl
/-- Twenty-seven rotations become thirty-four. -/
theorem chain_18 : k2_pay18 x (rollAcc x 27) (k2_pay17 x) = rollAcc x 34 := rfl
/-- Thirty-four rotations become forty-two. -/
theorem chain_21 : k2_pay21 x (rollAcc x 34) (k2_pay19 x) (k2_pay20 x) = rollAcc x 42 := rfl
/-- Forty-two rotations become forty-nine. -/
theorem chain_23 : k2_pay23 x (rollAcc x 42) (k2_pay22 x) = rollAcc x 49 := rfl
/-- Forty-nine rotations become fifty-seven. -/
theorem chain_26 : k2_pay26 x (rollAcc x 49) (k2_pay24 x) (k2_pay25 x) = rollAcc x 57 := rfl
/-- The last six rotations, and the correction of the first block, give the rank the body selects by. -/
theorem chain_28 (rr : IVec S64x128 32) (x0 : FVec F S64x128 .f32) :
    k2_pay28 rr b x x0 (rollAcc x 57) (k2_pay27 x) = addi (rollAcc x 63) (fix rr b x x0) := rfl

/-- The kernel's rank word from its pieces. -/
theorem chain (rr : IVec S64x128 32) (x0 : FVec F S64x128 .f32) (hx : x = k2_pay6 d cc uu b z) :
    k2_pay28 rr b x x0
      (k2_pay26 x (k2_pay23 x (k2_pay21 x (k2_pay18 x (k2_pay16 x (k2_pay13 x (k2_pay11 x (k2_pay8 d cc uu b z) (k2_pay9 d cc uu b z)
        (k2_pay10 d cc uu b z)) (k2_pay12 x)) (k2_pay14 x) (k2_pay15 x)) (k2_pay17 x)) (k2_pay19 x) (k2_pay20 x)) (k2_pay22 x))
        (k2_pay24 x) (k2_pay25 x)) (k2_pay27 x)
      = addi (rollAcc x 63) (fix rr b x x0) := by
  rw [chain_8, chain_9, chain_10, ← hx, chain_11, chain_13, chain_16, chain_18, chain_21, chain_23, chain_26, chain_28]

end generic

/-- A rotation at an index. -/
theorem rotate_at {α : Type} (x : S64x128.Idx → α) (n : ℕ) (hn : n < 128) (h : S64x128.Rotates 1 none) (r : Fin 64) (c : Fin 128) :
    dynamicRotate 1 (BitVec.ofNat 32 n) none x h (ix2 r c) = x (ix2 r ⟨(c.val + 128 - n) % 128, Nat.mod_lt _ (by omega)⟩) := by
  pointwise
  congr 3
  rw [BitVec.toNat_ofNat]
  omega

section ideal
variable (x : FVec Ideal S64x128 .f32) (r : Fin 64) (dp : ℕ → EReal)

/-- Zero or one as a word. -/
theorem bit_word (p : Prop) [Decidable p] :
    (BitVec.ofBool (decide p)).setWidth 32 = BitVec.ofInt 32 (if p then 1 else 0) := by
  by_cases h : p <;> simp [h]

/-- A difference as a word. -/
theorem ofInt_sub (a b : ℤ) : BitVec.ofInt 32 (a - b) = BitVec.ofInt 32 a - BitVec.ofInt 32 b := by
  rw [sub_eq_add_neg, BitVec.ofInt_add, BitVec.ofInt_neg, ← BitVec.sub_eq_add_neg]

open Classical in
/-- A comparison word at an index. -/
theorem ahd_at (hx : ∀ c : Fin 128, x (ix2 r c) = dp c.val) (n : ℕ) (hn : n < 128) (c : Fin 128) :
    ahd x (BitVec.ofNat 32 n) (ix2 r c) = BitVec.ofInt 32 (if dp ((c.val + 128 - n) % 128) < dp c.val then 1 else 0) := by
  have e : ahd x (BitVec.ofNat 32 n) (ix2 r c)
      = (FloatOps.cmpf (F := Ideal) (φ := .f32) .olt (dynamicRotate 1 (BitVec.ofNat 32 n) none x rotates_S64x128_d1 (ix2 r c)) (x (ix2 r c))).setWidth 32 := rfl
  rw [e, rotate_at x n hn, hx, hx]
  refine Eq.trans ?_ (bit_word _)
  congr

open Classical in
/-- A comparison word rotated back, at an index. -/
theorem bck_at (hx : ∀ c : Fin 128, x (ix2 r c) = dp c.val) (k : ℕ) (hk : k < 63) (c : Fin 128) :
    bck (ahd x (BitVec.ofNat 32 (k + 1))) (BitVec.ofNat 32 (127 - k)) (ix2 r c)
      = BitVec.ofInt 32 (if dp c.val < dp ((c.val + (k + 1)) % 128) then 1 else 0) := by
  unfold bck
  rw [rotate_at _ (127 - k) (by omega), ahd_at x r dp hx _ (by omega)]
  have e1 : ((c.val + 128 - (127 - k)) % 128 + 128 - (k + 1)) % 128 = c.val := by have := c.isLt; omega
  have e2 : (c.val + 128 - (127 - k)) % 128 = (c.val + (k + 1)) % 128 := by omega
  simp only [e1]
  rw [e2]

open Classical in
/-- The rank after the first rotations, at an index. -/
theorem rollAcc_at (hx : ∀ c : Fin 128, x (ix2 r c) = dp c.val) (c : Fin 128) (n : ℕ) (hn : n ≤ 63) :
    rollAcc x n (ix2 r c) = BitVec.ofInt 32 (63 + ∑ k ∈ Finset.range n, ((if dp ((c.val + 128 - (k + 1)) % 128) < dp c.val then (1 : Int) else 0)
      - (if dp c.val < dp ((c.val + (k + 1)) % 128) then 1 else 0))) := by
  induction n with
  | zero => rfl
  | succ k ih =>
    have e : rollAcc x (k + 1) (ix2 r c) = rollAcc x k (ix2 r c)
        + (ahd x (BitVec.ofNat 32 (k + 1)) (ix2 r c) - bck (ahd x (BitVec.ofNat 32 (k + 1))) (BitVec.ofNat 32 (127 - k)) (ix2 r c)) := rfl
    rw [e, ih (by omega), ahd_at x r dp hx _ (by omega), bck_at x r dp hx k (by omega), Finset.sum_range_succ,
      ← ofInt_sub, ← BitVec.ofInt_add]
    exact congrArg (BitVec.ofInt 32) (add_assoc _ _ _)

/-- The rank word of all rotations, at an index. -/
theorem rolls_at (hx : ∀ c : Fin 128, x (ix2 r c) = dp c.val) (c : Fin 128) :
    rollAcc x 63 (ix2 r c) = BitVec.ofInt 32 (rolls dp c.val) := by
  rw [rollAcc_at x r dp hx c 63 le_rfl]
  rfl

end ideal

end Cert.Kern
-- ==== Proof.Reals.lean ====
/-
  Real values: which of the layer's quantities are real numbers when the arguments are.
-/
module

public import proofs.«01_k».proof.Proof.Model
public import Idealize.ShloMosaic.Lib.IdealHost

@[expose] public section

set_option maxRecDepth 16384

noncomputable section

namespace Cert.Model

open Idealize.ShloMosaic

/-- An extended real that is a real number. -/
def IsReal (a : EReal) : Prop := ∃ r : ℝ, a = (r : EReal)

/-- A sum of real numbers is real. -/
theorem IsReal.add {a b : EReal} : IsReal a → IsReal b → IsReal (a + b) := fun ⟨x, hx⟩ ⟨y, hy⟩ => ⟨x + y, by rw [hx, hy]; exact (EReal.coe_add x y).symm⟩
/-- A difference of real numbers is real. -/
theorem IsReal.sub {a b : EReal} : IsReal a → IsReal b → IsReal (a - b) := fun ⟨x, hx⟩ ⟨y, hy⟩ => ⟨x - y, by rw [hx, hy]; exact (EReal.coe_sub x y).symm⟩
/-- A product of real numbers is real. -/
theorem IsReal.mul {a b : EReal} : IsReal a → IsReal b → IsReal (a * b) := fun ⟨x, hx⟩ ⟨y, hy⟩ => ⟨x * y, by rw [hx, hy]; exact (EReal.coe_mul x y).symm⟩
/-- The negative of a real number is real. -/
theorem IsReal.neg {a : EReal} : IsReal a → IsReal (-a) := fun ⟨x, hx⟩ => ⟨-x, by rw [hx]; exact (EReal.coe_neg x).symm⟩
/-- Zero is real. -/
theorem IsReal.zero : IsReal 0 := ⟨0, rfl⟩
/-- One is real. -/
theorem IsReal.one : IsReal 1 := ⟨1, rfl⟩
/-- The greater of two real numbers is real. -/
theorem IsReal.max {a b : EReal} (ha : IsReal a) (hb : IsReal b) : IsReal (max a b) := by
  rcases max_choice a b with h | h <;> rw [h] <;> assumption
/-- A finite sum of real numbers is real. -/
theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih
/-- A quotient of real numbers is real if the divisor is not zero. -/
theorem IsReal.div {a b : EReal} : IsReal a → IsReal b → b ≠ 0 → IsReal (Ideal.div a b) := by
  rintro ⟨x, rfl⟩ ⟨y, rfl⟩ h
  rw [Ideal.div, if_neg h]
  exact ⟨x * y⁻¹, by rw [← EReal.coe_inv]; exact (EReal.coe_mul _ _).symm⟩
/-- The error function of a real number is real. -/
theorem IsReal.erf {a : EReal} : IsReal a → IsReal (Ideal.erf a) := fun ⟨x, hx⟩ => ⟨_, by rw [hx, Ideal.erf_coe]⟩
/-- The exponential of a real number is real. -/
theorem IsReal.exp {a : EReal} : IsReal a → IsReal (Ideal.exp a) := fun ⟨x, hx⟩ => ⟨_, by rw [hx, Ideal.exp_coe]⟩
/-- The magnitude of a real number is real. -/
theorem IsReal.absf {a : EReal} : IsReal a → IsReal (FloatOps.absf (F := Ideal) (φ := .f32) a) := by
  intro h
  show IsReal (Max.max a (-a))
  exact h.max h.neg
/-- A real number is below infinity. -/
theorem IsReal.lt_top {a : EReal} : IsReal a → a < ⊤ := fun ⟨x, hx⟩ => hx ▸ EReal.coe_lt_top x
/-- The root of a real number that is not negative is real. -/
theorem IsReal.sqrt {a : EReal} : IsReal a → 0 ≤ a → IsReal (Ideal.sqrt a) := by
  rintro ⟨x, rfl⟩ h
  exact ⟨Real.sqrt x, by rw [Ideal.sqrt_coe, if_neg (not_lt.mpr (EReal.coe_nonneg.mp h))]⟩

/-- The exponential of anything is at least zero. -/
theorem exp_nonneg (a : EReal) : 0 ≤ Ideal.exp a := by
  induction a with
  | bot => simp
  | top => simp
  | coe x => rw [Ideal.exp_coe]; exact EReal.coe_nonneg.mpr (Real.exp_pos x).le

/-- The logarithm of one plus a real that is at least zero is real and at least zero. -/
theorem log1p_real {a : EReal} (ha : IsReal a) (h : 0 ≤ a) : IsReal (Ideal.log1p a) ∧ 0 ≤ Ideal.log1p a := by
  obtain ⟨x, rfl⟩ := ha
  have hx : 0 ≤ x := EReal.coe_nonneg.mp h
  have e : Ideal.log1p (x : EReal) = ((Real.log (1 + x) : ℝ) : EReal) := by
    have e1 : (1 : EReal) + (x : EReal) = ((1 + x : ℝ) : EReal) := by
      rw [EReal.coe_add]; rfl
    rw [Ideal.log1p, e1, Ideal.log_coe, if_neg (by linarith)]
  rw [e]
  exact ⟨⟨_, rfl⟩, EReal.coe_nonneg.mpr (Real.log_nonneg (by linarith))⟩

/-- The word for 4096. -/
theorem lit_4096 : lit 0x45800000#32 = ((4096 : ℝ) : EReal) := by
  simp [Ideal.ofBits, Ideal.ieee, -EReal.coe_mul]; norm_num
/-- The word for 512. -/
theorem lit_512 : lit 0x44000000#32 = ((512 : ℝ) : EReal) := by
  simp [Ideal.ofBits, Ideal.ieee, -EReal.coe_mul]; norm_num
/-- The word for one half. -/
theorem lit_half : lit 0x3F000000#32 = ((1 / 2 : ℝ) : EReal) := by
  simp [Ideal.ofBits, Ideal.ieee, -EReal.coe_mul]; norm_num
/-- The word for two. -/
theorem lit_two : lit 0x40000000#32 = ((2 : ℝ) : EReal) := by
  simp [Ideal.ofBits, Ideal.ieee, -EReal.coe_mul]; norm_num
/-- The word nearest a tenth stands for a real number. -/
theorem lit_tenth : IsReal (lit 0x3DCCCCCD#32) := by
  refine ⟨(13421773 : ℝ) / 134217728, ?_⟩
  simp [Ideal.ofBits, Ideal.ieee, -EReal.coe_mul]; norm_num
/-- The word nearest 1e-8 stands for a positive real number. -/
theorem lit_tiny : ∃ r : ℝ, 0 < r ∧ lit 0x322BCC77#32 = (r : EReal) := by
  refine ⟨(11258999 : ℝ) / 1125899906842624, by norm_num, ?_⟩
  simp [Ideal.ofBits, Ideal.ieee, -EReal.coe_mul]; norm_num

/-- A real number other than zero is not zero as an extended real. -/
theorem coe_ne_zero' {r : ℝ} (h : r ≠ 0) : (r : EReal) ≠ 0 := fun e => h (EReal.coe_eq_zero.mp e)

/-- What the claim asks of the arguments: these entries are real numbers. -/
structure Args.Real (A : Args) : Prop where
  x : ∀ t k, IsReal (A.x t k)
  wq : ∀ h k d, IsReal (A.wq h k d)
  w1 : ∀ j x, IsReal (A.w1 j x)
  b1 : ∀ j, IsReal (A.b1 j)
  w2 : ∀ x j, IsReal (A.w2 x j)
  b2 : ∀ x, IsReal (A.b2 x)
  base : ∀ h d, IsReal (A.base h d)

variable {A : Args} (H : A.Real)
include H

/-- The query latents are real. -/
theorem q_real (h : Fin 16) (t : Fin 4096) (d : Fin 64) : IsReal (q A h t d) :=
  (IsReal.sum _ fun k => (H.x t k).mul (H.wq h k d)).max IsReal.zero

/-- The features are real. -/
theorem fs_real (h : Fin 16) (d : Fin 64) : IsReal (fs A h d) := by
  unfold fs
  rw [lit_4096, lit_512, lit_half]
  exact ((IsReal.sum _ fun t => q_real H h t d).div ⟨_, rfl⟩ (coe_ne_zero' (by norm_num))).add
    (IsReal.mul ⟨_, rfl⟩ ((IsReal.sum _ fun j => q_real H h _ d).div ⟨_, rfl⟩ (coe_ne_zero' (by norm_num))))

/-- The first layer before its activation is real. -/
theorem z1_real (j : Fin 512) : IsReal (z1 A j) :=
  (IsReal.sum _ fun x => (fs_real H _ _).mul (H.w1 j x)).add (H.b1 j)

/-- The first layer is real. -/
theorem h1_real (j : Fin 512) : IsReal (h1 A j) := by
  unfold h1
  rw [lit_two, lit_half, Ideal.sqrt_coe, if_neg (by norm_num)]
  exact (IsReal.mul ⟨_, rfl⟩ (z1_real H j)).mul (IsReal.one.add ((z1_real H j).div ⟨_, rfl⟩ (coe_ne_zero' (by positivity))).erf)

/-- The metric before its softplus is real. -/
theorem z_real (h : Fin 16) (d : Fin 64) : IsReal (z A h d) :=
  (H.base h d).add (lit_tenth.mul ((IsReal.sum _ fun j => (h1_real H j).mul (H.w2 _ j)).add (H.b2 _)))

/-- The metric is real and not negative. -/
theorem met_real (h : Fin 16) (d : Fin 64) : IsReal (met A h d) ∧ 0 ≤ met A h d := by
  have hl := log1p_real (z_real H h d).absf.neg.exp (exp_nonneg _)
  exact ⟨((z_real H h d).max IsReal.zero).add hl.1, add_nonneg (le_max_right _ _) hl.2⟩

/-- The squared distance is real and at least zero. -/
theorem dist_real (h : Fin 16) (t : Fin 4096) (o : ℕ) :
    IsReal (∑ d, (q A h (back t o) d - q A h t d) * (q A h (back t o) d - q A h t d) * met A h d)
      ∧ 0 ≤ ∑ d, (q A h (back t o) d - q A h t d) * (q A h (back t o) d - q A h t d) * met A h d := by
  have hd : ∀ d, IsReal (q A h (back t o) d - q A h t d) := fun d => (q_real H h _ d).sub (q_real H h t d)
  refine ⟨IsReal.sum _ fun d => ((hd d).mul (hd d)).mul (met_real H h d).1, Finset.sum_nonneg fun d _ => ?_⟩
  obtain ⟨r, hr⟩ := hd d
  refine mul_nonneg ?_ (met_real H h d).2
  rw [hr, ← EReal.coe_mul]
  exact EReal.coe_nonneg.mpr (mul_self_nonneg r)

/-- The distances are real. -/
theorem near_real (h : Fin 16) (t : Fin 4096) (o : ℕ) : IsReal (near A h t o) := by
  obtain ⟨hr, h0⟩ := dist_real H h t o
  obtain ⟨e, he, hl⟩ := lit_tiny
  unfold near
  rw [hl]
  exact (hr.add ⟨e, rfl⟩).sqrt (add_nonneg h0 (EReal.coe_nonneg.mpr he.le))

omit H in
/-- The normalizer is not zero. -/
theorem tot_ne_zero (A : Args) (h : Fin 16) (t : Fin 4096) : tot A h t ≠ 0 := by
  obtain ⟨e, he, hl⟩ := lit_tiny
  unfold tot
  rw [hl]
  refine (lt_of_lt_of_le (EReal.coe_pos.mpr he) (le_add_of_nonneg_left (Finset.sum_nonneg fun o _ => ?_))).ne'
  unfold infl
  split_ifs
  · exact exp_nonneg _
  · exact le_rfl

end Cert.Model
-- ==== Proof.Band.lean ====
/-
  Sums over a band of 128 columns against sums over 64 offsets.
-/
module

public import proofs.«01_k».proof.Proof.Reals
public import proofs.«01_k».proof.Proof.Ranks

@[expose] public section

set_option maxRecDepth 16384

noncomputable section

namespace Cert.Band

open Idealize.ShloMosaic Cert.Model Cert.Ranks

/-- A sum over the columns of a band that starts at row `r`'s own column and reaches back `M`: column for offset up to
    `M - 1`, and at offset `M` all offsets from there on. -/
theorem sum_band {E : Type} [AddCommMonoid E] (M r : ℕ) (hM : M ≤ 63) (hr : r ≤ 63) (hMr : M ≤ r + 64) (G : Fin 128 → E) (g : ℕ → E)
    (h1 : ∀ o (ho : o < M), G ⟨r + 64 - o, by omega⟩ = g o)
    (h2 : G ⟨r + 64 - M, by omega⟩ = ∑ j ∈ Finset.range (64 - M), g (M + j))
    (h0 : ∀ c : Fin 128, ¬(r + 64 - M ≤ c.val ∧ c.val ≤ r + 64) → G c = 0) :
    ∑ c, G c = ∑ o : Fin 64, g o.val := by
  have e1 : ∑ c, G c = ∑ c ∈ Finset.univ.filter (fun c : Fin 128 => r + 64 - M ≤ c.val ∧ c.val ≤ r + 64), G c := by
    rw [Finset.sum_filter]
    refine Finset.sum_congr rfl fun c _ => ?_
    by_cases hc : r + 64 - M ≤ c.val ∧ c.val ≤ r + 64
    · rw [if_pos hc]
    · rw [if_neg hc, h0 c hc]
  have e2 : ∑ c ∈ Finset.univ.filter (fun c : Fin 128 => r + 64 - M ≤ c.val ∧ c.val ≤ r + 64), G c
      = ∑ o ∈ Finset.range (M + 1), (if o < M then g o else ∑ j ∈ Finset.range (64 - M), g (M + j)) := by
    refine Finset.sum_bij (fun c _ => r + 64 - c.val) (fun c hc => ?_) (fun a ha b hb e => ?_) (fun o ho => ?_) (fun c hc => ?_)
    · have := (Finset.mem_filter.mp hc).2
      exact Finset.mem_range.mpr (by omega)
    · have h3 := (Finset.mem_filter.mp ha).2
      have h4 := (Finset.mem_filter.mp hb).2
      exact Fin.ext (by omega)
    · have := Finset.mem_range.mp ho
      exact ⟨⟨r + 64 - o, by omega⟩, Finset.mem_filter.mpr ⟨Finset.mem_univ _, by constructor <;> simp only <;> omega⟩, by simp only; omega⟩
    · have h3 := (Finset.mem_filter.mp hc).2
      by_cases h : r + 64 - c.val < M
      · rw [if_pos h, ← h1 _ h]
        exact congrArg G (Fin.ext (by simp only; omega))
      · rw [if_neg h, ← h2]
        exact congrArg G (Fin.ext (by simp only; omega))
  have e3 : ∑ o ∈ Finset.range (M + 1), (if o < M then g o else ∑ j ∈ Finset.range (64 - M), g (M + j))
      = ∑ o ∈ Finset.range M, g o + ∑ j ∈ Finset.range (64 - M), g (M + j) := by
    rw [Finset.sum_range_succ, if_neg (lt_irrefl M)]
    exact congrArg (· + _) (Finset.sum_congr rfl fun o ho => if_pos (Finset.mem_range.mp ho))
  rw [e1, e2, e3, ← Finset.sum_range_add, Fin.sum_univ_eq_sum_range (fun o => g o) 64]
  exact congrArg (fun n => ∑ o ∈ Finset.range n, g o) (by omega)

/-- Copies counted by a number. -/
theorem count_mul {n : ℕ} (p : ℕ → Prop) [DecidablePred p] (e : EReal) (N : ℤ)
    (hN : N = ∑ j ∈ Finset.range n, if p j then 1 else 0) :
    ((N : ℝ) : EReal) * e = ∑ j ∈ Finset.range n, if p j then e else 0 := by
  rw [← Finset.sum_filter, Finset.sum_const, EReal.nsmul_eq_mul]
  have : N = (((Finset.range n).filter p).card : ℤ) := by
    rw [hN, ← Finset.sum_filter, Finset.sum_const]
    simp
  rw [this]
  simp

section
/-- A band column's weight. -/
def wgt (M r : ℕ) (D : ℕ → EReal) (N : Fin 128 → ℤ) (c : Fin 128) : EReal := ((N c : ℝ) : EReal) * Ideal.exp (0 - ring M r D c.val)

/-- Outside the band the weight is zero. -/
theorem wgt_out (M r : ℕ) (D : ℕ → EReal) (N : Fin 128 → ℤ) (c : Fin 128) (hc : ¬(r + 64 - M ≤ c.val ∧ c.val ≤ r + 64)) : wgt M r D N c = 0 := by
  unfold wgt ring
  rw [if_neg hc]
  have : (0 : EReal) - ⊤ = ⊥ := by simp
  rw [this, Ideal.exp_bot, mul_zero]

/-- The weights' sum. -/
theorem sum_wgt (M r : ℕ) (hM : M ≤ 63) (hr : r ≤ 63) (hMr : M ≤ r + 64) (D : ℕ → EReal) (N : Fin 128 → ℤ)
    (hN1 : ∀ o (ho : o < M), N ⟨r + 64 - o, by omega⟩ = if ahead D o < 32 then 1 else 0)
    (hN2 : N ⟨r + 64 - M, by omega⟩ = ∑ j ∈ Finset.range (64 - M), if ahead D (M + j) < 32 then 1 else 0)
    (hD : ∀ j, j < 64 - M → D (M + j) = D M) :
    ∑ c, wgt M r D N c = ∑ o : Fin 64, if ahead D o.val < 32 then Ideal.exp (-(D o.val)) else 0 := by
  refine sum_band M r hM hr hMr _ (fun o => if ahead D o < 32 then Ideal.exp (-(D o)) else 0) (fun o ho => ?_) ?_ (fun c hc => wgt_out M r D N c hc)
  · unfold wgt
    rw [hN1 o ho, ring_in M r D o ho.le hM, zero_sub]
    split_ifs <;> simp
  · unfold wgt
    rw [ring_in M r D M le_rfl hM, zero_sub, count_mul (fun j => ahead D (M + j) < 32) _ _ hN2]
    exact Finset.sum_congr rfl fun j hj => by rw [hD j (Finset.mem_range.mp hj)]

/-- The weighted values' sum. -/
theorem sum_ctx (M r : ℕ) (hM : M ≤ 63) (hr : r ≤ 63) (hMr : M ≤ r + 64) (D : ℕ → EReal) (W : ℕ → EReal) (N : Fin 128 → ℤ) (U : Fin 128 → EReal)
    (hN1 : ∀ o (ho : o < M), N ⟨r + 64 - o, by omega⟩ = if ahead D o < 32 then 1 else 0)
    (hN2 : N ⟨r + 64 - M, by omega⟩ = ∑ j ∈ Finset.range (64 - M), if ahead D (M + j) < 32 then 1 else 0)
    (hD : ∀ j, j < 64 - M → D (M + j) = D M) (hW : ∀ j, j < 64 - M → W (M + j) = W M)
    (hU : ∀ o (ho : o ≤ M), U ⟨r + 64 - o, by omega⟩ = W o) (T : EReal) (hT : T ≠ 0) :
    ∑ c, Ideal.div (wgt M r D N c) T * U c
      = ∑ o : Fin 64, if ahead D o.val < 32 then Ideal.div (Ideal.exp (-(D o.val))) T * W o.val else 0 := by
  have hdiv : ∀ a, Ideal.div a T = a * T⁻¹ := fun a => by rw [Ideal.div, if_neg hT]
  refine sum_band M r hM hr hMr _ (fun o => if ahead D o < 32 then Ideal.div (Ideal.exp (-(D o))) T * W o else 0) (fun o ho => ?_) ?_ (fun c hc => ?_)
  · unfold wgt
    rw [hN1 o ho, ring_in M r D o ho.le hM, zero_sub, hU o ho.le]
    split_ifs
    · simp
    · rw [hdiv]; simp
  · unfold wgt
    rw [ring_in M r D M le_rfl hM, zero_sub, hU M le_rfl, hdiv, mul_assoc, mul_assoc, ← mul_assoc (Ideal.exp _),
      count_mul (fun j => ahead D (M + j) < 32) _ _ hN2]
    exact Finset.sum_congr rfl fun j hj => by rw [hD j (Finset.mem_range.mp hj), hW j (Finset.mem_range.mp hj), hdiv]
  · rw [wgt_out M r D N c hc, hdiv, zero_mul, zero_mul]

end

end Cert.Band
-- ==== Proof.Count.lean ====
/-
  The band's distances, counts and weighted values at an index.
-/
module

public import proofs.«01_k».proof.Proof.Chain
public import proofs.«01_k».proof.Proof.Band
public import Idealize.ShloMosaic.Lib.SortNet.Extract

@[expose] public section

set_option maxRecDepth 16384

noncomputable section

namespace Cert.Kern

open Cert.KernelIdeal Cert.KernelIdeal.Gen Idealize.ShloMosaic Idealize.ShloMosaic.TcCoe Idealize.SL.Sem
open Cert.Ranks Cert.Model Cert.Band

/-- The row numbers. -/
abbrev rr : IVec S64x128 32 := iota .tc S64x128 32 [0] iota_S64x128_d0_w32
/-- The column numbers. -/
abbrev cc : IVec S64x128 32 := iota .tc S64x128 32 [1] iota_S64x128_d1_w32

/-- The kernel's constant for a column outside the band is infinity. -/
theorem far_top : Named.named (F := Ideal) Cert.KernelIdeal.κ "far" (φ := .f32) 0x5368D4A5#32 = ⊤ :=
  IdealRules.named_const.ideal_named_scalar _ _ _ _ rfl

/-- The number of copies a column stands for in the first block's test. -/
def mulWord (b : BitVec 1) (r : Fin 64) (c : Fin 128) : BitVec 32 :=
  Scalar.select (IntOp.andi b (IntOp.cmpi .eq (BitVec.ofNat 32 c.val) 64#32))
    (IntOp.maxsi (IntOp.subi 64#32 (BitVec.ofNat 32 r.val)) 1#32) 1#32

/-- The number of copies of a column that are kept, as the kernel computes it from the column's rank. -/
def cntWord (b : BitVec 1) (k : BitVec 32) (r : Fin 64) (c : Fin 128) : BitVec 32 :=
  IntOp.minsi (mulWord b r c) (IntOp.maxsi 0#32 (IntOp.subi 32#32 k))

/-- How far back a row's own offsets reach. -/
def lim (f : Bool) (r : ℕ) : ℕ := if f then r else 63

/-- The reach is at most sixty-three. -/
theorem lim_le (f : Bool) (r : Fin 64) : lim f r ≤ 63 := by unfold lim; split_ifs <;> omega
/-- The reach stays within the columns behind the row. -/
theorem lim_le' (f : Bool) (r : Fin 64) : lim f r ≤ r.val + 64 := by unfold lim; split_ifs <;> omega

/-- The band's mask in words. -/
theorem mask_word : ∀ (f : Bool) (r : Fin 64) (c : Fin 128),
    IntOp.andi
        (IntOp.andi
          (IntOp.cmpi .sge (IntOp.subi (IntOp.subi (BitVec.ofNat 32 c.val) (BitVec.ofNat 32 r.val)) 1#32) 0#32)
          (IntOp.cmpi .slt (IntOp.subi (IntOp.subi (BitVec.ofNat 32 c.val) (BitVec.ofNat 32 r.val)) 1#32) 64#32))
        (IntOp.ori (Scalar.xori (BitVec.ofBool f) 1#1) (IntOp.cmpi .sge (BitVec.ofNat 32 c.val) 64#32))
      = BitVec.ofBool (decide (r.val + 64 - lim f r ≤ c.val ∧ c.val ≤ r.val + 64)) := by
  decide +kernel

/-- The multiplicity in words. -/
theorem mul_word : ∀ (f : Bool) (r : Fin 64) (c : Fin 128),
    (mulWord (BitVec.ofBool f) r c).toInt = if f = true ∧ c.val = 64 then (64 : ℤ) - r.val else 1 := by
  decide +kernel

/-- The room left by a rank in words. -/
theorem room_word : ∀ k : Fin 65, (IntOp.maxsi 0#32 (IntOp.subi 32#32 (BitVec.ofInt 32 (k.val : ℤ)))).toInt = max 0 (32 - (k.val : ℤ)) := by
  decide +kernel

/-- The correction in words. -/
theorem fix_word : ∀ (f g : Bool) (r : Fin 64),
    Scalar.select (IntOp.andi (IntOp.andi (BitVec.ofBool f) (IntOp.cmpi .slt (BitVec.ofNat 32 r.val) 63#32)) (BitVec.ofBool g))
      (IntOp.subi 63#32 (BitVec.ofNat 32 r.val)) 0#32
      = BitVec.ofInt 32 (if f = true ∧ g = true then 63 - (r.val : ℤ) else 0) := by
  decide +kernel

/-- A word from a rank, in integers. -/
theorem cnt_toInt (f : Bool) (k : ℕ) (hk : k ≤ 64) (r : Fin 64) (c : Fin 128) :
    (cntWord (BitVec.ofBool f) (BitVec.ofInt 32 (k : ℤ)) r c).toInt
      = min (if f = true ∧ c.val = 64 then (64 : ℤ) - r.val else 1) (max 0 (32 - (k : ℤ))) := by
  unfold cntWord
  rw [SortNet.toInt_minsi, mul_word, room_word ⟨k, by omega⟩]

/-- Counting up from a rank while it stays below 32. -/
theorem sum_room (a n : ℕ) : (∑ j ∈ Finset.range n, if a + j < 32 then (1 : ℤ) else 0) = min (n : ℤ) (max 0 (32 - (a : ℤ))) := by
  induction n with
  | zero => simp
  | succ n ih =>
    rw [Finset.sum_range_succ, ih]
    split_ifs <;> push_cast <;> omega

section
variable (x : FVec Ideal S64x128 .f32) (f : Bool) (r : Fin 64) (D : ℕ → EReal)

/-- The distances kept: the row's own on the ring, infinity outside. -/
theorem pay6_at (hx : ∀ o (ho : o ≤ lim f r), x (ix2 r ⟨r + 64 - o, by omega⟩) = D o) (c : Fin 128) :
    k2_pay6 (F := Ideal) x cc k2_pay5 (BitVec.ofBool f) 0#32 (ix2 r c) = ring (lim f r) r D c.val := by
  pointwise [k2_pay6, k2_pay5, far_top]
  rw [mask_word]
  unfold ring
  by_cases h : r.val + 64 - lim f r ≤ c.val ∧ c.val ≤ r.val + 64
  · rw [if_pos h, decide_eq_true h]
    refine Eq.trans ?_ (hx (r + 64 - c) (by omega))
    exact congrArg (fun j => x (ix2 r j)) (Fin.ext (by simp only; omega))
  · rw [if_neg h, decide_eq_false h]
    rfl

/-- The first block's own distance: the one to the sequence's start. -/
theorem pay7_at (c : Fin 128) : k2_pay7 (F := Ideal) x (ix2 r c) = x (ix2 r 64) := by
  pointwise [k2_pay7]

/-- The correction at an index. -/
theorem fix_at (b : BitVec 1) (x0 : FVec Ideal S64x128 .f32) (c : Fin 128) :
    fix (F := Ideal) rr b x x0 (ix2 r c) =
      Scalar.select (IntOp.andi (IntOp.andi b (IntOp.cmpi .slt (BitVec.ofNat 32 r.val) 63#32)) (BitVec.ofBool (decide (x0 (ix2 r c) < x (ix2 r c)))))
      (IntOp.subi 63#32 (BitVec.ofNat 32 r.val)) 0#32 := by
  pointwise [fix]

/-- The rank the kernel computes at an offset's column is the number of offsets ahead of it. -/
theorem rank_at (hx : ∀ o (ho : o ≤ lim f r), x (ix2 r ⟨r + 64 - o, by omega⟩) = D o) (hD : ∀ p, D p < ⊤)
    (hf : f = true → ∀ p, r.val ≤ p → D p = D r.val) (o : ℕ) (ho : o ≤ lim f r) :
    addi (rollAcc (k2_pay6 (F := Ideal) x cc k2_pay5 (BitVec.ofBool f) 0#32) 63)
      (fix (F := Ideal) rr (BitVec.ofBool f) (k2_pay6 x cc k2_pay5 (BitVec.ofBool f) 0#32) (k2_pay7 x)) (ix2 r ⟨r + 64 - o, by omega⟩)
      = BitVec.ofInt 32 (ahead D o : ℤ) := by
  refine (congrArg₂ (· + ·) (rolls_at _ r _ (pay6_at x f r D hx) ⟨r + 64 - o, by omega⟩) ((fix_at _ r _ _ _).trans (fix_word _ _ r))).trans ?_
  rw [← BitVec.ofInt_add, pay6_at x f r D hx, pay7_at]
  refine congrArg (BitVec.ofInt 32) ?_
  have hr := r.isLt
  have hM := lim_le f r
  simp only
  rw [ring_in _ _ D o ho hM]
  cases f with
  | false =>
    rw [if_neg (by simp), add_zero]
    exact rolls_full _ D hD o ho hr
  | true =>
    have e : x (ix2 r 64) = D r.val := by
      refine Eq.trans ?_ (hx r.val (by simp [lim]))
      exact congrArg (fun j => x (ix2 r j)) (Fin.ext (show 64 = r.val + 64 - r.val by omega))
    rw [e]
    refine Eq.trans ?_ (rolls_first _ D hD o ho hr (hf rfl))
    refine congrArg _ ?_
    have hl : lim true r.val = r.val := rfl
    rw [hl]
    by_cases h : D r.val < D o
    · rw [if_pos h, if_pos ⟨rfl, decide_eq_true h⟩]
    · rw [if_neg h, if_neg (fun h' => h (of_decide_eq_true h'.2))]

/-- Before the last of its offsets, a column is kept once or not at all. -/
theorem cnt_before (o : ℕ) (ho : o < lim f r) :
    (cntWord (BitVec.ofBool f) (BitVec.ofInt 32 (ahead D o : ℤ)) r ⟨r + 64 - o, by omega⟩).toInt = if ahead D o < 32 then 1 else 0 := by
  rw [cnt_toInt f _ (ahead_le D o)]
  have hn : ¬(f = true ∧ r.val + 64 - o = 64) := by
    rintro ⟨h, h'⟩
    rw [h] at ho
    simp only [lim, if_true] at ho
    omega
  rw [if_neg hn]
  split_ifs <;> omega

/-- At the last of its offsets a column stands for all offsets from there on. -/
theorem cnt_last (hf : f = true → ∀ p, r.val ≤ p → D p = D r.val) :
    (cntWord (BitVec.ofBool f) (BitVec.ofInt 32 (ahead D (lim f r) : ℤ)) r ⟨r + 64 - lim f r, by omega⟩).toInt
      = ∑ j ∈ Finset.range (64 - lim f r), if ahead D (lim f r + j) < 32 then 1 else 0 := by
  rw [cnt_toInt f _ (ahead_le D _)]
  have hr := r.isLt
  cases f with
  | false =>
    rw [if_neg (by simp)]
    simp only [lim, Bool.false_eq_true, if_false]
    rw [show 64 - 63 = 1 from rfl, Finset.sum_range_one, add_zero]
    split_ifs <;> omega
  | true =>
    simp only [lim, if_true]
    rw [if_pos ⟨trivial, show r.val + 64 - r.val = 64 by omega⟩]
    have e : ∀ j ∈ Finset.range (64 - r.val), (if ahead D (r.val + j) < 32 then (1 : ℤ) else 0) = if ahead D r.val + j < 32 then 1 else 0 :=
      fun j hj => by rw [ahead_repeat r.val D (hf rfl) j (by have := Finset.mem_range.mp hj; omega)]
    rw [Finset.sum_congr rfl e, sum_room]
    push_cast [hr.le]
    rfl

end

/-- The weighted values at an index, from the counts and the kept distances. -/
theorem pay29_at (b : BitVec 1) (x : FVec Ideal S64x128 .f32) (k : IVec S64x128 32) (vp vc : Vec Ideal S1x64x64 .f32) (r d : Fin 64) :
    k2_pay29 (F := Ideal) rr cc b x k vp vc (ix2 r d)
      = ∑ c : Fin 128, Ideal.div ((((cntWord b (k (ix2 r c)) r c).toInt : ℝ) : EReal) * Ideal.exp (0 - x (ix2 r c)))
          (∑ c : Fin 128, (((cntWord b (k (ix2 r c)) r c).toInt : ℝ) : EReal) * Ideal.exp (0 - x (ix2 r c)) + lit 0x322BCC77#32)
          * (if h : c.val < 64 then vp (ix3 0 ⟨c.val, h⟩ d) else vc (ix3 0 ⟨c.val - 64, by omega⟩ d)) := by
  rw [Fin.sum_univ_add (a := 64) (b := 64)]
  pointwise [k2_pay29]
  refine congrArg₂ (· + ·) (Finset.sum_congr rfl fun c _ => ?_) (Finset.sum_congr rfl fun c _ => ?_)
  · refine congrArg₂ (· * ·) rfl ?_
    rw [dif_pos (show (Fin.castAdd 64 c).val < 64 from c.isLt)]
    rfl
  · refine congrArg₂ (· * ·) rfl ?_
    rw [dif_neg (show ¬(Fin.natAdd 64 c).val < 64 by simp)]
    refine (congrArg (fun j => vc (ix3 0 j d)) (Fin.ext ?_))
    simp

/-- The band's weighted values, for counts and kept distances that have been read. -/
theorem band_sum (M r : ℕ) (hM : M ≤ 63) (hr : r ≤ 63) (hMr : M ≤ r + 64) (D W : ℕ → EReal) (N : Fin 128 → ℤ) (X U : Fin 128 → EReal)
    (hN1 : ∀ o (ho : o < M), N ⟨r + 64 - o, by omega⟩ = if ahead D o < 32 then 1 else 0)
    (hN2 : N ⟨r + 64 - M, by omega⟩ = ∑ j ∈ Finset.range (64 - M), if ahead D (M + j) < 32 then 1 else 0)
    (hD : ∀ j, j < 64 - M → D (M + j) = D M) (hW : ∀ j, j < 64 - M → W (M + j) = W M)
    (hU : ∀ o (ho : o ≤ M), U ⟨r + 64 - o, by omega⟩ = W o) (hX : ∀ c : Fin 128, X c = ring M r D c.val)
    (hT : ∑ o : Fin 64, (if ahead D o.val < 32 then Ideal.exp (-(D o.val)) else 0) + lit 0x322BCC77#32 ≠ 0) :
    ∑ c : Fin 128, Ideal.div (((N c : ℝ) : EReal) * Ideal.exp (0 - X c))
          (∑ c : Fin 128, ((N c : ℝ) : EReal) * Ideal.exp (0 - X c) + lit 0x322BCC77#32) * U c
      = ∑ o : Fin 64, if ahead D o.val < 32
          then Ideal.div (Ideal.exp (-(D o.val))) (∑ o : Fin 64, (if ahead D o.val < 32 then Ideal.exp (-(D o.val)) else 0) + lit 0x322BCC77#32) * W o.val
          else 0 := by
  obtain rfl : X = fun c => ring M r D c.val := funext hX
  have hs := sum_wgt M r hM hr hMr D N hN1 hN2 hD
  unfold wgt at hs
  rw [hs]
  exact sum_ctx M r hM hr hMr D W N U hN1 hN2 hD hW hU _ hT

/-- The band's weighted values are the attended context. -/
theorem band_ctx (x : FVec Ideal S64x128 .f32) (f : Bool) (r d : Fin 64) (D W : ℕ → EReal) (vp vc : Vec Ideal S1x64x64 .f32)
    (hx : ∀ o (ho : o ≤ lim f r), x (ix2 r ⟨r + 64 - o, by omega⟩) = D o) (hD : ∀ p, D p < ⊤)
    (hf : f = true → ∀ p, r.val ≤ p → D p = D r.val) (hW : f = true → ∀ p, r.val ≤ p → W p = W r.val)
    (hU : ∀ o (ho : o ≤ lim f r), (if h : r.val + 64 - o < 64 then vp (ix3 0 ⟨r + 64 - o, h⟩ d) else vc (ix3 0 ⟨r + 64 - o - 64, by omega⟩ d)) = W o)
    (hT : ∑ o : Fin 64, (if ahead D o.val < 32 then Ideal.exp (-(D o.val)) else 0) + lit 0x322BCC77#32 ≠ 0) :
    k2_pay29 (F := Ideal) rr cc (BitVec.ofBool f) (k2_pay6 x cc k2_pay5 (BitVec.ofBool f) 0#32)
      (addi (rollAcc (k2_pay6 x cc k2_pay5 (BitVec.ofBool f) 0#32) 63)
        (fix (F := Ideal) rr (BitVec.ofBool f) (k2_pay6 x cc k2_pay5 (BitVec.ofBool f) 0#32) (k2_pay7 x))) vp vc (ix2 r d)
      = ∑ o : Fin 64, if ahead D o.val < 32
          then Ideal.div (Ideal.exp (-(D o.val))) (∑ o : Fin 64, (if ahead D o.val < 32 then Ideal.exp (-(D o.val)) else 0) + lit 0x322BCC77#32) * W o.val
          else 0 := by
  rw [pay29_at]
  generalize hk : (addi (rollAcc (k2_pay6 (F := Ideal) x cc k2_pay5 (BitVec.ofBool f) 0#32) 63)
        (fix (F := Ideal) rr (BitVec.ofBool f) (k2_pay6 x cc k2_pay5 (BitVec.ofBool f) 0#32) (k2_pay7 x))) = k
  have hrk : ∀ o (ho : o ≤ lim f r), k (ix2 r ⟨r + 64 - o, by omega⟩) = BitVec.ofInt 32 (ahead D o : ℤ) := fun o ho => by
    rw [← hk]; exact rank_at x f r D hx hD hf o ho
  have hM := lim_le f r
  have hr : r.val ≤ 63 := by omega
  have hMr := lim_le' f r
  have hN1 : ∀ o (ho : o < lim f r), (fun c : Fin 128 => (cntWord (BitVec.ofBool f) (k (ix2 r c)) r c).toInt) ⟨r + 64 - o, by omega⟩
      = if ahead D o < 32 then 1 else 0 := fun o ho => by
    simp only
    rw [hrk o ho.le]
    exact cnt_before f r D o ho
  have hN2 : (fun c : Fin 128 => (cntWord (BitVec.ofBool f) (k (ix2 r c)) r c).toInt) ⟨r + 64 - lim f r, by omega⟩
      = ∑ j ∈ Finset.range (64 - lim f r), if ahead D (lim f r + j) < 32 then 1 else 0 := by
    simp only
    rw [hrk _ le_rfl]
    exact cnt_last f r D hf
  have hrep : ∀ X : ℕ → EReal, (f = true → ∀ p, r.val ≤ p → X p = X r.val) → ∀ j, j < 64 - lim f r → X (lim f r + j) = X (lim f r) := by
    intro X hX j hj
    cases f with
    | false =>
      simp only [lim, Bool.false_eq_true, if_false] at hj ⊢
      rw [show j = 0 by omega]
    | true =>
      simp only [lim, if_true]
      exact hX rfl _ (by omega)
  refine band_sum (lim f r) r.val hM hr hMr D W (fun c : Fin 128 => (cntWord (BitVec.ofBool f) (k (ix2 r c)) r c).toInt) _
    (fun c => if h : c.val < 64 then vp (ix3 0 ⟨c.val, h⟩ d) else vc (ix3 0 ⟨c.val - 64, by omega⟩ d)) hN1 hN2 (hrep D hf) (hrep W hW) hU
    (pay6_at x f r D hx) hT

end Cert.Kern
-- ==== Proof.Contrib.lean ====
/-
  One head's contribution to a block of the result, at an index.
-/
module

public import proofs.«01_k».proof.Proof.Count

@[expose] public section

set_option maxRecDepth 16384

noncomputable section

namespace Cert.Kern

open Cert.KernelIdeal Cert.KernelIdeal.Gen Idealize.ShloMosaic Idealize.ShloMosaic.TcCoe Idealize.SL.Sem
open Cert.Ranks Cert.Model Cert.Band

/-- The diagonal's test in words. -/
theorem diag_word : ∀ (r : Fin 64) (c : Fin 128),
    IntOp.cmpi .eq (BitVec.ofNat 32 c.val) (IntOp.addi (BitVec.ofNat 32 r.val) 64#32) = BitVec.ofBool (decide (c.val = r.val + 64)) := by
  decide +kernel

/-- Column `c` of the previous block's rows followed by the current block's. -/
def both (p q : Vec Ideal S1x64x64 .f32) (c : Fin 128) (d : Fin 64) : EReal :=
  if h : c.val < 64 then p (ix3 0 ⟨c.val, h⟩ d) else q (ix3 0 ⟨c.val - 64, by omega⟩ d)

/-- A sum of real numbers, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih]; exact (EReal.coe_add _ _).symm

/-- The square of a difference, multiplied out, for real numbers. -/
theorem expand {q k m : Fin 64 → EReal} (hq : ∀ d, IsReal (q d)) (hk : ∀ d, IsReal (k d)) (hm : ∀ d, IsReal (m d)) :
    ∑ d, q d * m d * q d + ∑ d, k d * m d * k d - lit 0x40000000#32 * ∑ d, q d * (k d * m d)
      = ∑ d, (k d - q d) * (k d - q d) * m d := by
  choose q' hq using hq
  choose k' hk using hk
  choose m' hm using hm
  have e : ∀ f : Fin 64 → ℝ, ∑ d, ((f d : ℝ) : EReal) = ((∑ d, f d : ℝ) : EReal) := fun f => coe_sum _ f
  rw [lit_two]
  simp only [hq, hk, hm, ← EReal.coe_mul, ← EReal.coe_sub, e, ← EReal.coe_add]
  refine congrArg _ ?_
  rw [Finset.mul_sum, ← Finset.sum_add_distrib, ← Finset.sum_sub_distrib]
  exact Finset.sum_congr rfl fun d _ => by ring

/-- The kernel's distance of a row to a column. -/
theorem pay4_at (qc qp : Vec Ideal S1x64x64 .f32) (m : Vec Ideal S1x64 .f32) (r : Fin 64) (c : Fin 128) :
    k2_pay4 (F := Ideal) qc qp m (ix2 r c) =
      Ideal.sqrt (max (if c.val = r.val + 64 then 0 else
        ∑ d, qc (ix3 0 r d) * m (ix2 0 d) * qc (ix3 0 r d) + ∑ d, both qp qc c d * m (ix2 0 d) * both qp qc c d
          - lit 0x40000000#32 * ∑ d, qc (ix3 0 r d) * (both qp qc c d * m (ix2 0 d))) 0 + lit 0x322BCC77#32) := by
  pointwise [k2_pay4, k2_pay3]
  rw [diag_word]
  by_cases h : c.val = r.val + 64
  · rw [if_pos h, decide_eq_true h]
    rfl
  · rw [if_neg h, decide_eq_false h]
    rfl

/-- The current rows. -/
theorem pay3_at (qc : Vec Ideal S1x64x64 .f32) (r d : Fin 64) : k2_pay3 (F := Ideal) qc (ix2 r d) = qc (ix3 0 r d) := by
  pointwise [k2_pay3]

/-- A row's norm. -/
theorem pay30_at (qc : FVec Ideal S64x64 .f32) (r : Fin 64) :
    k2_pay30 (F := Ideal) qc (ix2 r 0) = Ideal.sqrt (∑ d, qc (ix2 r d) * qc (ix2 r d) + lit 0x179ABE15#32) := by
  pointwise [k2_pay30]

/-- Whether the norm is large enough. -/
theorem pay31_at (qc : FVec Ideal S64x64 .f32) (r : Fin 64) :
    k2_pay31 (F := Ideal) qc (ix2 r 0) = BitVec.setWidth 32 (BitVec.ofBool (decide (lit 0x3E4CCCCD#32 < k2_pay30 qc (ix2 r 0)))) := by
  pointwise [k2_pay31]

/-- A truth value as a number. -/
theorem flag_word (p : Prop) [Decidable p] :
    FloatOps.sitofp (F := Ideal) .f32 (BitVec.setWidth 32 (BitVec.ofBool (decide p))) = if p then (1 : EReal) else 0 := by
  by_cases h : p
  · rw [if_pos h, decide_eq_true h]
    show (((1 : ℤ) : ℝ) : EReal) = 1
    norm_num
  · rw [if_neg h, decide_eq_false h]
    show (((0 : ℤ) : ℝ) : EReal) = 0
    norm_num

/-- The gated context through the head's rows of the decoder. -/
theorem pay1_at (q ctx : FVec Ideal S64x64 .f32) (n : FVec Ideal S64x1 .f32) (g : IVec S64x1 32) (hu : Vec Ideal S1x64x16 .f32)
    (hv : Vec Ideal S1x16x64 .f32) (dec : Vec Ideal S64x1024 .f32) (r : Fin 64) (e : Fin 1024) :
    k2_pay1 (F := Ideal) q ctx n g hu hv dec (ix2 r e) =
      ∑ x, q (ix2 r x) * (ctx (ix2 r x) + FloatOps.sitofp (F := Ideal) .f32 (g (ix2 r 0)) * lit 0x3DCCCCCD#32 *
        ∑ y, Ideal.div (q (ix2 r y)) (max (n (ix2 r 0)) (lit 0x2B8CBCCC#32)) * ∑ z, hu (ix3 0 y z) * hv (ix3 0 z x)) * dec (ix2 x e) := by
  pointwise [k2_pay1]

/-- What is there already and the contribution. -/
theorem pay2_at (q ctx : FVec Ideal S64x64 .f32) (n : FVec Ideal S64x1 .f32) (g : IVec S64x1 32) (hu : Vec Ideal S1x64x16 .f32)
    (hv : Vec Ideal S1x16x64 .f32) (dec o : Vec Ideal S64x1024 .f32) (r : Fin 64) (e : Fin 1024) :
    k2_pay2 (F := Ideal) q ctx n g hu hv dec o (ix2 r e) = o (ix2 r e) + k2_pay1 (F := Ideal) q ctx n g hu hv dec (ix2 r e) := by
  pointwise [k2_pay2]

/-- The current row of a block of positions. -/
abbrev pos (i : Fin 64) (r : Fin 64) : Fin 4096 := ⟨64 * i.val + r.val, by omega⟩

/-- The same row of the block before, of the first block itself if there is none. -/
abbrev prev (i : Fin 64) (r : Fin 64) : Fin 4096 := ⟨64 * (i.val - 1) + r.val, by omega⟩

section
variable {A : Args} (H : A.Real) (i : Fin 64) (h : Fin 16) (qc qp vp vc : Vec Ideal S1x64x64 .f32) (m : Vec Ideal S1x64 .f32)
  (hqc : ∀ r d, qc (ix3 0 r d) = q A h (pos i r) d) (hqp : ∀ r d, qp (ix3 0 r d) = q A h (prev i r) d)
  (hvc : ∀ r d, vc (ix3 0 r d) = v A h (pos i r) d) (hvp : ∀ r d, vp (ix3 0 r d) = v A h (prev i r) d)
  (hm : ∀ d, m (ix2 0 d) = met A h d)

/-- Whether a block is the first. -/
abbrev first (i : Fin 64) : Bool := decide (i.val = 0)

/-- In the first block every offset past the row's own position reads the first position. -/
theorem first_back (r : Fin 64) (X : Fin 4096 → EReal) : first i = true → ∀ p, r.val ≤ p → X (back (pos i r) p) = X (back (pos i r) r.val) := by
  intro hi p hp
  have hi := of_decide_eq_true hi
  exact congrArg X (Fin.ext (by simp only; omega))

/-- A band column holds the row an offset back. -/
theorem both_back {p c : Vec Ideal S1x64x64 .f32} {X : Fin 4096 → Fin 64 → EReal} (hc : ∀ r d, c (ix3 0 r d) = X (pos i r) d)
    (hp : ∀ r d, p (ix3 0 r d) = X (prev i r) d) (r : Fin 64) (o : ℕ) (ho : o ≤ lim (first i) r) (d : Fin 64) :
    both p c ⟨r + 64 - o, by omega⟩ d = X (back (pos i r) o) d := by
  have hM := lim_le (first i) r
  unfold both
  split_ifs with hlt
  · rw [hp]
    have hi : i.val ≠ 0 := by
      intro hi
      rw [show first i = true from decide_eq_true hi] at ho
      simp only [lim, if_true] at ho hlt
      omega
    exact congrArg (X · d) (Fin.ext (by simp only at hlt ⊢; omega))
  · rw [hc]
    exact congrArg (X · d) (Fin.ext (by simp only at hlt ⊢; omega))

include H hqc hqp hm in
/-- The kernel's distance at an offset's column is the distance to the position that far back. -/
theorem dist_near (r : Fin 64) (o : ℕ) (ho : o ≤ lim (first i) r) :
    k2_pay4 (F := Ideal) qc qp m (ix2 r ⟨r + 64 - o, by omega⟩) = near A h (pos i r) o := by
  rw [pay4_at]
  unfold near
  refine congrArg (fun s : EReal => Ideal.sqrt (s + lit 0x322BCC77#32)) ?_
  by_cases h0 : o = 0
  · subst h0
    rw [if_pos (by simp only; omega), max_self]
    refine (Finset.sum_eq_zero fun d _ => ?_).symm
    have e : back (pos i r) 0 = pos i r := Fin.ext (Nat.sub_zero _)
    obtain ⟨a, ha⟩ := q_real H h (pos i r) d
    rw [e, ha, ← EReal.coe_sub, sub_self, EReal.coe_zero, mul_zero, zero_mul]
  · have hM := lim_le (first i) r
    rw [if_neg (by simp only; omega)]
    simp only [both_back i hqc hqp r o ho, hqc, hm]
    rw [expand (fun d => q_real H h _ d) (fun d => q_real H h _ d) (fun d => (met_real H h d).1)]
    exact max_eq_left (dist_real H h (pos i r) o).2

include H hqc hqp hm hvc hvp in
/-- The attended context of a row. -/
theorem ctx_at (r d : Fin 64) :
    k2_pay29 (F := Ideal) rr cc (BitVec.ofBool (first i)) (k2_pay6 (k2_pay4 qc qp m) cc k2_pay5 (BitVec.ofBool (first i)) 0#32)
      (addi (rollAcc (k2_pay6 (k2_pay4 qc qp m) cc k2_pay5 (BitVec.ofBool (first i)) 0#32) 63)
        (fix (F := Ideal) rr (BitVec.ofBool (first i)) (k2_pay6 (k2_pay4 qc qp m) cc k2_pay5 (BitVec.ofBool (first i)) 0#32) (k2_pay7 (k2_pay4 qc qp m)))) vp vc (ix2 r d)
      = ctx A h (pos i r) d := by
  refine (band_ctx _ (first i) r d (near A h (pos i r)) (fun o => v A h (back (pos i r) o) d) vp vc
    (fun o ho => dist_near H i h qc qp m hqc hqp hm r o ho) (fun p => (near_real H h _ p).lt_top) (fun hi p hp => ?_)
    (first_back i r fun t => v A h t d) (fun o ho => both_back i hvc hvp r o ho d) (tot_ne_zero A h (pos i r))).trans rfl
  have hi := of_decide_eq_true hi
  have e : back (pos i r) p = back (pos i r) r.val := Fin.ext (by simp only; omega)
  unfold near
  rw [e]

include H hqc hqp hm hvc hvp in
/-- The head's contribution to a row of the block. -/
theorem head_at (hu : Vec Ideal S1x64x16 .f32) (hv : Vec Ideal S1x16x64 .f32) (dec : Vec Ideal S64x1024 .f32)
    (hhu : ∀ d s, hu (ix3 0 d s) = A.hu h d s) (hhv : ∀ s d, hv (ix3 0 s d) = A.hv h s d) (hdec : ∀ d e, dec (ix2 d e) = A.dec (fl h d) e)
    (r : Fin 64) (e : Fin 1024) :
    k2_pay1 (F := Ideal) (k2_pay3 qc)
      (k2_pay29 (F := Ideal) rr cc (BitVec.ofBool (first i)) (k2_pay6 (k2_pay4 qc qp m) cc k2_pay5 (BitVec.ofBool (first i)) 0#32)
        (addi (rollAcc (k2_pay6 (k2_pay4 qc qp m) cc k2_pay5 (BitVec.ofBool (first i)) 0#32) 63)
          (fix (F := Ideal) rr (BitVec.ofBool (first i)) (k2_pay6 (k2_pay4 qc qp m) cc k2_pay5 (BitVec.ofBool (first i)) 0#32) (k2_pay7 (k2_pay4 qc qp m)))) vp vc)
      (k2_pay30 (k2_pay3 qc)) (k2_pay31 (k2_pay3 qc)) hu hv dec (ix2 r e)
      = ∑ d, lat A h (pos i r) d * A.dec (fl h d) e := by
  rw [pay1_at]
  refine Finset.sum_congr rfl fun d _ => ?_
  have en : k2_pay30 (F := Ideal) (k2_pay3 qc) (ix2 r 0) = nrm A h (pos i r) := by
    rw [pay30_at]
    simp only [pay3_at, hqc]
    rfl
  rw [ctx_at H i h qc qp vp vc m hqc hqp hvc hvp hm r d, pay31_at, flag_word, en]
  simp only [pay3_at, hqc, hhu, hhv, hdec]
  rfl

end

end Cert.Kern
-- ==== Proof.Region2.lean ====
/-
  The third region's array, at an index.
-/
module

public import proofs.«01_k».proof.Proof.KernelIdealFrame
public import proofs.«01_k».proof.Proof.Contrib
public import Idealize.ShloMosaic.Lib.Pipeline.ValueKit

@[expose] public section

set_option maxRecDepth 16384

noncomputable section

namespace Cert.Kern

open Cert.KernelIdeal Cert.KernelIdeal.Gen Cert.KernelIdeal.Frame Idealize.ShloMosaic Idealize.ShloMosaic.TcCoe Idealize.SL.Sem
open Cert.Model

/-- The metric's row the body loads. -/
def metRow (i : grid2.Coords) (x : Vec Ideal S16x64 .f32) : Vec Ideal S1x64 .f32 :=
  View.ld x (Rect.unit (s := S16x64) (k2_off1 i) S1x64.size (k2_off1_inb i))
/-- The decoder's rows the body loads. -/
def decRows (i : grid2.Coords) (x : Vec Ideal S1024x1024 .f32) : Vec Ideal S64x1024 .f32 :=
  View.ld x (Rect.unit (s := S1024x1024) (k2_off2 i) S64x1024.size (k2_off2_inb i))

/-- Whether the point's block is the first, in words. -/
abbrev firstWord (i : grid2.Coords) : BitVec 1 := Scalar.cmpi .eq (BitVec.ofNat 32 (i 0).val) 0#32

/-- The distances kept at a point. -/
abbrev kept (b : BitVec 1) (qc qp : Vec Ideal S1x64x64 .f32) (m : Vec Ideal S1x64 .f32) : FVec Ideal S64x128 .f32 :=
  k2_pay6 (F := Ideal) (k2_pay4 qc qp m) cc k2_pay5 b 0#32

/-- The attended context at a point. -/
abbrev attended (b : BitVec 1) (qc qp vc vp : Vec Ideal S1x64x64 .f32) (m : Vec Ideal S1x64 .f32) : FVec Ideal S64x64 .f32 :=
  k2_pay29 (F := Ideal) rr cc b (kept b qc qp m)
    (addi (rollAcc (kept b qc qp m) 63) (fix (F := Ideal) rr b (kept b qc qp m) (k2_pay7 (k2_pay4 qc qp m)))) vp vc

section
variable (c : Dev nD) (i : grid2.Coords) (arg2 : Memref sig .tc .vmem S1x64x64 .f32) (harg2 : arg2.IsWhole) (arg3 : Memref sig .tc .vmem S1x64x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S16x64 .f32) (harg6 : arg6.IsWhole) (arg7 : Memref sig .tc .vmem S1x64x16 .f32) (harg7 : arg7.IsWhole) (arg8 : Memref sig .tc .vmem S1x16x64 .f32) (harg8 : arg8.IsWhole) (arg9 : Memref sig .tc .vmem S1024x1024 .f32) (harg9 : arg9.IsWhole) (arg10 : Memref sig .tc .vmem S64x1024 .f32) (harg10 : arg10.IsWhole)
  (x0 : Vec Ideal S1x64x64 .f32) (x1 : Vec Ideal S1x64x64 .f32) (x2 : Vec Ideal S1x64x64 .f32) (x3 : Vec Ideal S1x64x64 .f32) (x4 : Vec Ideal S16x64 .f32) (x5 : Vec Ideal S1x64x16 .f32) (x6 : Vec Ideal S1x16x64 .f32) (x7 : Vec Ideal S1024x1024 .f32)

/-- What a head-0 point leaves. -/
theorem out_A (hc0 : cond2_0 i) (hc1 : ¬cond2_1 i) :
    out2_A_8 (F := Ideal) c i arg2 harg2 arg3 harg3 arg4 harg4 arg5 harg5 arg6 harg6 arg7 harg7 arg8 harg8 arg9 harg9 arg10 harg10 hc0 hc1 x0 x1 x2 x3 x4 x5 x6 x7
      = k2_pay1 (F := Ideal) (k2_pay3 x0) (attended (firstWord i) x0 x1 x2 x3 (metRow i x4)) (k2_pay30 (k2_pay3 x0)) (k2_pay31 (k2_pay3 x0)) x5 x6 (decRows i x7) := by
  frame_out
  rw [chain _ _ _ _ _ _ _ _ rfl]
  rfl

/-- What a later point leaves, over what was there. -/
theorem out_B (hc0 : ¬cond2_0 i) (hc1 : cond2_1 i) (xo : Vec Ideal S64x1024 .f32) :
    out2_B_8 (F := Ideal) c i arg2 harg2 arg3 harg3 arg4 harg4 arg5 harg5 arg6 harg6 arg7 harg7 arg8 harg8 arg9 harg9 arg10 harg10 hc0 hc1 x0 x1 x2 x3 x4 x5 x6 x7 xo
      = k2_pay2 (F := Ideal) (k2_pay3 x0) (attended (firstWord i) x0 x1 x2 x3 (metRow i x4)) (k2_pay30 (k2_pay3 x0)) (k2_pay31 (k2_pay3 x0)) x5 x6 (decRows i x7) xo := by
  frame_out
  rw [chain _ _ _ _ _ _ _ _ rfl]
  rfl
end

/-- The block a point works on. -/
abbrev blockOf (t : Fin cfg2.N) : Fin 64 := ⟨t.val / 16, by have := lt_of_lt_of_eq t.isLt (show cfg2.N = 1024 from N_2); omega⟩
/-- The head a point works on. -/
abbrev laneOf (t : Fin cfg2.N) : Fin 16 := ⟨t.val % 16, by omega⟩

/-- The windows' blocks. -/
theorem index2_0 : ∀ t : Fin cfg2.N, win2_0.index t = ![t.val % 16, t.val / 16, 0] := (by decide +kernel : ∀ t : Fin grid2.N, win2_0.index t = ![t.val % 16, t.val / 16, 0])
/-- Window 1 holds the query latents of the block before, of the point's head. -/
theorem index2_1 : ∀ t : Fin cfg2.N, win2_1.index t = ![t.val % 16, t.val / 16 - 1, 0] := (by decide +kernel : ∀ t : Fin grid2.N, win2_1.index t = ![t.val % 16, t.val / 16 - 1, 0])
/-- Window 2 holds the value latents of the point's head and block. -/
theorem index2_2 : ∀ t : Fin cfg2.N, win2_2.index t = ![t.val % 16, t.val / 16, 0] := (by decide +kernel : ∀ t : Fin grid2.N, win2_2.index t = ![t.val % 16, t.val / 16, 0])
/-- Window 3 holds the value latents of the block before. -/
theorem index2_3 : ∀ t : Fin cfg2.N, win2_3.index t = ![t.val % 16, t.val / 16 - 1, 0] := (by decide +kernel : ∀ t : Fin grid2.N, win2_3.index t = ![t.val % 16, t.val / 16 - 1, 0])
/-- Window 4 holds the whole metric. -/
theorem index2_4 : ∀ t : Fin cfg2.N, win2_4.index t = ![0, 0] := (by decide +kernel : ∀ t : Fin grid2.N, win2_4.index t = ![0, 0])
/-- Window 5 holds the head's first Hebbian factor. -/
theorem index2_5 : ∀ t : Fin cfg2.N, win2_5.index t = ![t.val % 16, 0, 0] := (by decide +kernel : ∀ t : Fin grid2.N, win2_5.index t = ![t.val % 16, 0, 0])
/-- Window 6 holds the head's second Hebbian factor. -/
theorem index2_6 : ∀ t : Fin cfg2.N, win2_6.index t = ![t.val % 16, 0, 0] := (by decide +kernel : ∀ t : Fin grid2.N, win2_6.index t = ![t.val % 16, 0, 0])
/-- Window 7 holds the whole decoder. -/
theorem index2_7 : ∀ t : Fin cfg2.N, win2_7.index t = ![0, 0] := (by decide +kernel : ∀ t : Fin grid2.N, win2_7.index t = ![0, 0])
/-- Window 8 holds the block's output rows. -/
theorem index2_8 : ∀ t : Fin cfg2.N, win2_8.index t = ![t.val / 16, 0] := (by decide +kernel : ∀ t : Fin grid2.N, win2_8.index t = ![t.val / 16, 0])
/-- The output block is written back after the last head. -/
theorem flush2_8 : ∀ t : Fin cfg2.N, (cfg2.win 8).flush t = true → t.val % 16 = 15 := (by decide +kernel : ∀ t : Fin grid2.N, (cfg2.win 8).flush t = true → t.val % 16 = 15)
/-- The offsets of the metric's row and the decoder's rows. -/
theorem off2_1 : ∀ t : Fin cfg2.N, k2_off1 (grid2.coords t) = ![t.val % 16, 0] := (by decide +kernel : ∀ t : Fin grid2.N, k2_off1 (grid2.coords t) = ![t.val % 16, 0])
/-- The decoder rows a point reads begin at its head's. -/
theorem off2_2 : ∀ t : Fin cfg2.N, k2_off2 (grid2.coords t) = ![64 * (t.val % 16), 0] := (by decide +kernel : ∀ t : Fin grid2.N, k2_off2 (grid2.coords t) = ![64 * (t.val % 16), 0])
/-- Whether a point's block is the first. -/
theorem firstWord_at : ∀ t : Fin cfg2.N, firstWord (grid2.coords t) = BitVec.ofBool (decide (t.val / 16 = 0)) :=
  (by decide +kernel : ∀ t : Fin grid2.N, firstWord (grid2.coords t) = BitVec.ofBool (decide (t.val / 16 = 0)))

/-- The metric row a point reads is its head's. -/
theorem metRow_at (t : Fin cfg2.N) (x : Vec Ideal S16x64 .f32) (d : Fin 64) : metRow (grid2.coords t) x (ix2 0 d) = x (ix2 (laneOf t) d) := by
  refine View.ld_unit_apply_of x _ _ _ _ _ fun a => Eq.trans ?_ (congrArg (· + _) (congrFun (off2_1 t) a).symm)
  match a with
  | ⟨0, _⟩ => rfl
  | ⟨1, _⟩ => exact (Nat.zero_add _).symm

/-- The decoder rows a point reads are its head's. -/
theorem decRows_at (t : Fin cfg2.N) (x : Vec Ideal S1024x1024 .f32) (d : Fin 64) (e : Fin 1024) :
    decRows (grid2.coords t) x (ix2 d e) = x (ix2 (fl (laneOf t) d) e) := by
  refine View.ld_unit_apply_of x _ _ _ _ _ fun a => Eq.trans ?_ (congrArg (· + _) (congrFun (off2_2 t) a).symm)
  match a with
  | ⟨0, _⟩ => exact congrArg (· + d.val) (Nat.mul_comm _ _)
  | ⟨1, _⟩ => exact (Nat.zero_add _).symm

section
variable (V : (c : Dev nD) → (b : Ref sig .tc) → Buf (Elt Ideal) ((c : Thread nD τ).loc b)) (c : Dev nD)

/-- A point's query latents, by position. -/
theorem iblk2_0_at (t : Fin cfg2.N) (r d : Fin 64) : iblk2 V c 0 t (ix3 0 r d) = V c main_call0_v1_0 (ix3 (laneOf t) (pos (blockOf t) r) d) := by
  blk_simp [iblk2]
  blk_ext [index2_0]
/-- The query latents of the block before, by position. -/
theorem iblk2_1_at (t : Fin cfg2.N) (r d : Fin 64) : iblk2 V c 1 t (ix3 0 r d) = V c main_call0_v1_0 (ix3 (laneOf t) (prev (blockOf t) r) d) := by
  blk_simp [iblk2]
  blk_ext [index2_1]
/-- A point's value latents, by position. -/
theorem iblk2_2_at (t : Fin cfg2.N) (r d : Fin 64) : iblk2 V c 2 t (ix3 0 r d) = V c main_call0_v1_1 (ix3 (laneOf t) (pos (blockOf t) r) d) := by
  blk_simp [iblk2]
  blk_ext [index2_2]
/-- The value latents of the block before, by position. -/
theorem iblk2_3_at (t : Fin cfg2.N) (r d : Fin 64) : iblk2 V c 3 t (ix3 0 r d) = V c main_call0_v1_1 (ix3 (laneOf t) (prev (blockOf t) r) d) := by
  blk_simp [iblk2]
  blk_ext [index2_3]
/-- The metric a point reads. -/
theorem iblk2_4_at (t : Fin cfg2.N) (h : Fin 16) (d : Fin 64) : iblk2 V c 4 t (ix2 h d) = V c main_call0_v10 (ix2 h d) := by
  blk_simp [iblk2]
  blk_ext [index2_4]
/-- The first Hebbian factor a point reads. -/
theorem iblk2_5_at (t : Fin cfg2.N) (d : Fin 64) (s : Fin 16) : iblk2 V c 5 t (ix3 0 d s) = V c main_arg9 (ix3 (laneOf t) d s) := by
  blk_simp [iblk2]
  blk_ext [index2_5]
/-- The second Hebbian factor a point reads. -/
theorem iblk2_6_at (t : Fin cfg2.N) (s : Fin 16) (d : Fin 64) : iblk2 V c 6 t (ix3 0 s d) = V c main_arg10 (ix3 (laneOf t) s d) := by
  blk_simp [iblk2]
  blk_ext [index2_6]
/-- The decoder a point reads. -/
theorem iblk2_7_at (t : Fin cfg2.N) (x e : Fin 1024) : iblk2 V c 7 t (ix2 x e) = V c main_arg8 (ix2 x e) := by
  blk_simp [iblk2]
  blk_ext [index2_7]
/-- Where a point's output rows go. -/
theorem emb2_8 (t : Fin cfg2.N) (r : Fin 64) (e : Fin 1024) : (win2_8.blk t).view.emb (ix2 r e) = ix2 (pos (blockOf t) r) e := by
  blk_ext [index2_8]

variable {A : Args} (H : A.Real) (hq : ∀ h t d, V c main_call0_v1_0 (ix3 h t d) = q A h t d) (hv : ∀ h t d, V c main_call0_v1_1 (ix3 h t d) = v A h t d)
  (hm : ∀ h d, V c main_call0_v10 (ix2 h d) = met A h d) (hhu : ∀ h d s, V c main_arg9 (ix3 h d s) = A.hu h d s)
  (hhv : ∀ h s d, V c main_arg10 (ix3 h s d) = A.hv h s d) (hdec : ∀ x e, V c main_arg8 (ix2 x e) = A.dec x e)

/-- A point's contribution to a row of its block. -/
def part (A : Args) (t : Fin cfg2.N) (y : S64x1024.Idx) : EReal :=
  ∑ d, lat A (laneOf t) (pos (blockOf t) (y 0)) d * A.dec (fl (laneOf t) d) (y 1)

include H hq hv hm hhu hhv hdec in
/-- What a point adds to its output block is its head's part of the model's output. -/
theorem point_at (t : Fin cfg2.N) (y : S64x1024.Idx) :
    k2_pay1 (F := Ideal) (k2_pay3 (iblk2 V c 0 t))
      (attended (firstWord (grid2.coords t)) (iblk2 V c 0 t) (iblk2 V c 1 t) (iblk2 V c 2 t) (iblk2 V c 3 t) (metRow (grid2.coords t) (iblk2 V c 4 t)))
      (k2_pay30 (k2_pay3 (iblk2 V c 0 t))) (k2_pay31 (k2_pay3 (iblk2 V c 0 t))) (iblk2 V c 5 t) (iblk2 V c 6 t) (decRows (grid2.coords t) (iblk2 V c 7 t)) y
      = part A t y := by
  obtain ⟨r, e, rfl⟩ : ∃ r e, y = ix2 r e := ⟨_, _, eq_ix2 y⟩
  rw [firstWord_at]
  exact head_at H (blockOf t) (laneOf t) _ _ _ _ _ (fun r d => (iblk2_0_at V c t r d).trans (hq _ _ _)) (fun r d => (iblk2_1_at V c t r d).trans (hq _ _ _))
    (fun r d => (iblk2_2_at V c t r d).trans (hv _ _ _)) (fun r d => (iblk2_3_at V c t r d).trans (hv _ _ _))
    (fun d => (metRow_at t _ d).trans ((iblk2_4_at V c t _ d).trans (hm _ _))) _ _ _ (fun d s => (iblk2_5_at V c t d s).trans (hhu _ _ _))
    (fun s d => (iblk2_6_at V c t s d).trans (hhv _ _ _)) (fun d e => (decRows_at t _ d e).trans ((iblk2_7_at V c t _ e).trans (hdec _ _))) r e

include H hq hv hm hhu hhv hdec in
/-- The region leaves the layer's result. -/
theorem result_arr (t : Fin 4096) (e : Fin 1024) : (dat2 V c).arrAt 8 cfg2.N (ix2 t e) = out A t e := by
  have K : (dat2 V c).arrAt 8 cfg2.N = fun j : S4096x1024.Idx => out A (j 0) (j 1) := by
    refine (dat2 V c).arrAt_eq_of_covers 8 _ (by decide +kernel) fun t hf y => ?_
    blk_simp
    rw [after2_8]
    rw [Pipeline.eq_sum_fin_of_reset_step_apply_of_flush (fun n h => outsAt2 V c n h) 16 (fun _ => (0 : EReal)) (part A)
      (fun t h j => by
        rw [outsAt2_A V c t h (by omega), out_A, zero_add]
        exact point_at V c H hq hv hm hhu hhv hdec t j)
      (fun t h j => by
        rw [outsAt2_B V c t h (by omega), out_B]
        obtain ⟨r, e, rfl⟩ : ∃ r e, j = ix2 r e := ⟨_, _, eq_ix2 j⟩
        rw [pay2_at]
        exact congrArg _ (point_at V c H hq hv hm hhu hhv hdec t (ix2 r e))) t (flush2_8 t hf) y, zero_add]
    obtain ⟨r, e, rfl⟩ : ∃ r e, y = ix2 r e := ⟨_, _, eq_ix2 y⟩
    rw [emb2_8]
    unfold part out
    refine Fin.sum_mul_add_congr (S := 16) (n := 64) fun s k hl => ?_
    have e1 : laneOf ⟨16 * (t.val / 16) + s.val, Pipeline.run_point_lt_of_flush t (flush2_8 t hf) s⟩ = s := Fin.ext (by simp only; omega)
    have e2 : blockOf ⟨16 * (t.val / 16) + s.val, Pipeline.run_point_lt_of_flush t (flush2_8 t hf) s⟩ = blockOf t := Fin.ext (by simp only; omega)
    have e3 : hd ⟨s.val * 64 + k.val, hl⟩ = s := Fin.ext (by simp only; omega)
    have e4 : ch ⟨s.val * 64 + k.val, hl⟩ = k := Fin.ext (by simp only; omega)
    rw [e1, e2, e3, e4]
    rfl
  exact congrFun K _

end

end Cert.Kern
-- ==== Proof.Entry.lean ====
/-
  What each kernel launch is handed: the host's reshapes and transposes between the launches, read entry by entry, carry
  the arguments and the earlier launches' arrays to the reading the launches' own theorems ask for; the program's result
  is then the model's output.
-/
module

public import proofs.«01_k».proof.Proof.Enc
public import proofs.«01_k».proof.Proof.Metric
public import proofs.«01_k».proof.Proof.Region2
public import Idealize.ShloMosaic.Lib.StableHlo.ReadAt

@[expose] public section

set_option maxRecDepth 16384

noncomputable section

namespace Cert.Kern

open Cert.KernelIdeal Cert.KernelIdeal.Gen Cert.KernelIdeal.Frame Idealize.ShloMosaic Idealize.ShloMosaic.TcCoe Idealize.SL.Sem
open Cert.Model

variable (m : (ℓ : Loc nD τ sig) → Buf (Elt Ideal) ℓ) (ρ : Dev nD → PrngReg) (c : Dev nD)

/-- The kernel's arguments' entries on one device. -/
def kargs : Args where
  x t k := m ((c : Thread nD τ).loc main_arg0) (ix3 0 t k)
  wq h k d := m ((c : Thread nD τ).loc main_arg1) (ix3 h k d)
  wv h k d := m ((c : Thread nD τ).loc main_arg2) (ix3 h k d)
  w1 j x := m ((c : Thread nD τ).loc main_arg3) (ix2 j x)
  b1 j := m ((c : Thread nD τ).loc main_arg4) (ix1 j)
  w2 x j := m ((c : Thread nD τ).loc main_arg5) (ix2 x j)
  b2 x := m ((c : Thread nD τ).loc main_arg6) (ix1 x)
  base h d := m ((c : Thread nD τ).loc main_arg7) (ix2 h d)
  dec x e := m ((c : Thread nD τ).loc main_arg8) (ix2 x e)
  hu h d r := m ((c : Thread nD τ).loc main_arg9) (ix3 h d r)
  hv h r d := m ((c : Thread nD τ).loc main_arg10) (ix3 h r d)

/-! ## The first launch's entry -/

/-- The first launch's input rows are the sequence's. -/
theorem entry_x (t : Fin 4096) (k : Fin 1024) : V1 m ρ c main_call0_v0 (ix2 t k) = (kargs m c).x t k := by
  show StableHlo.after hostOps0 (W0 m ρ c) (Proc.devRef .tc main_call0_v0) (ix2 t k) = _
  after_results_simp
  pointwise
  exact congrFun (W0_args m ρ c main_arg0 (by decide)) _

/-- Its query latents are the model's. -/
theorem latent_q (h : Fin 16) (t : Fin 4096) (d : Fin 64) :
    latent (V1 m ρ c main_call0_v0) (V1 m ρ c main_arg1) h t d = q (kargs m c) h t d :=
  congrArg (fun s : EReal => max s 0) (Finset.sum_congr rfl fun k _ =>
    congrArg₂ (fun a b : EReal => a * b) (entry_x m ρ c t k) (congrFun (W1_args m ρ c main_arg1 (by decide)) _))

/-- Its value latents are the model's. -/
theorem latent_v (h : Fin 16) (t : Fin 4096) (d : Fin 64) :
    latent (V1 m ρ c main_call0_v0) (V1 m ρ c main_arg2) h t d = v (kargs m c) h t d :=
  congrArg (fun s : EReal => max s 0) (Finset.sum_congr rfl fun k _ =>
    congrArg₂ (fun a b : EReal => a * b) (entry_x m ρ c t k) (congrFun (W1_args m ρ c main_arg2 (by decide)) _))

/-- What it leaves in the query array. -/
theorem left_q (h : Fin 16) (t : Fin 4096) (d : Fin 64) :
    W2 m ρ c (Proc.devRef .tc main_call0_v1_0) (ix3 h t d) = q (kargs m c) h t d :=
  (congrFun (W2_arr m ρ c 3) _).trans ((enc_q (V1 m ρ) c h t d).trans (latent_q m ρ c h t d))
/-- What it leaves in the value array. -/
theorem left_v (h : Fin 16) (t : Fin 4096) (d : Fin 64) :
    W2 m ρ c (Proc.devRef .tc main_call0_v1_1) (ix3 h t d) = v (kargs m c) h t d :=
  (congrFun (W2_arr m ρ c 4) _).trans ((enc_v (V1 m ρ) c h t d).trans (latent_v m ρ c h t d))
/-- What it leaves in the array of column sums. -/
theorem left_s1 (h : Fin 16) (d : Fin 64) :
    W2 m ρ c (Proc.devRef .tc main_call0_v1_2) (ix3 h 0 d) = ∑ t, q (kargs m c) h t d :=
  (congrFun (W2_arr m ρ c 5) _).trans ((enc_s1 (V1 m ρ) c h d).trans
    (Finset.sum_congr (M := EReal) rfl fun t _ => latent_q m ρ c h t d))
/-- What it leaves in the array of sums over every eighth row. -/
theorem left_s2 (h : Fin 16) (d : Fin 64) :
    W2 m ρ c (Proc.devRef .tc main_call0_v1_3) (ix3 h 0 d) = ∑ j : Fin 512, q (kargs m c) h ⟨8 * j.val, by omega⟩ d :=
  (congrFun (W2_arr m ρ c 6) _).trans ((enc_s2 (V1 m ρ) c h d).trans
    (Finset.sum_congr (M := EReal) rfl fun j _ => latent_q m ρ c h _ d))

/-! ## The second launch's entry -/

/-- The column sums, one row of all heads' channels. -/
theorem entry_s1 (x : Fin 1024) : V3 m ρ c main_call0_v2 (ix2 0 x) = ∑ t, q (kargs m c) (hd x) t (ch x) := by
  refine Eq.trans ?_ (left_s1 m ρ c (hd x) (ch x))
  show StableHlo.after hostOps1 (W2 m ρ c) (Proc.devRef .tc main_call0_v2) (ix2 0 x) = _
  after_results_simp
  pointwise
/-- The sums over every eighth row, likewise. -/
theorem entry_s2 (x : Fin 1024) :
    V3 m ρ c main_call0_v3 (ix2 0 x) = ∑ j : Fin 512, q (kargs m c) (hd x) ⟨8 * j.val, by omega⟩ (ch x) := by
  refine Eq.trans ?_ (left_s2 m ρ c (hd x) (ch x))
  show StableHlo.after hostOps1 (W2 m ρ c) (Proc.devRef .tc main_call0_v3) (ix2 0 x) = _
  after_results_simp
  pointwise
/-- The first layer's weights, transposed. -/
theorem entry_w1 (x : Fin 1024) (j : Fin 512) : V3 m ρ c main_call0_v4 (ix2 x j) = (kargs m c).w1 j x := by
  refine Eq.trans ?_ (congrFun (W2_args m ρ c main_arg3 (by decide)) (ix2 j x))
  show StableHlo.after hostOps1 (W2 m ρ c) (Proc.devRef .tc main_call0_v4) (ix2 x j) = _
  after_results_simp
  show transpose S1024x512 [1, 0] (W2 m ρ c (Proc.devRef .tc main_arg3) : S512x1024.Idx → EReal)
    transposes_S512x1024_S1024x512_1_0 (ix2 x j) = _
  pointwise
/-- The first layer's bias, as a row. -/
theorem entry_b1 (j : Fin 512) : V3 m ρ c main_call0_v5 (ix2 0 j) = (kargs m c).b1 j := by
  refine Eq.trans ?_ (congrFun (W2_args m ρ c main_arg4 (by decide)) (ix1 j))
  show StableHlo.after hostOps1 (W2 m ρ c) (Proc.devRef .tc main_call0_v5) (ix2 0 j) = _
  after_results_simp
  pointwise
/-- The second layer's weights, transposed. -/
theorem entry_w2 (j : Fin 512) (x : Fin 1024) : V3 m ρ c main_call0_v6 (ix2 j x) = (kargs m c).w2 x j := by
  refine Eq.trans ?_ (congrFun (W2_args m ρ c main_arg5 (by decide)) (ix2 x j))
  show StableHlo.after hostOps1 (W2 m ρ c) (Proc.devRef .tc main_call0_v6) (ix2 j x) = _
  after_results_simp
  show transpose S512x1024 [1, 0] (W2 m ρ c (Proc.devRef .tc main_arg5) : S1024x512.Idx → EReal)
    transposes_S1024x512_S512x1024_1_0 (ix2 j x) = _
  pointwise
/-- The second layer's bias, as a row. -/
theorem entry_b2 (x : Fin 1024) : V3 m ρ c main_call0_v7 (ix2 0 x) = (kargs m c).b2 x := by
  refine Eq.trans ?_ (congrFun (W2_args m ρ c main_arg6 (by decide)) (ix1 x))
  show StableHlo.after hostOps1 (W2 m ρ c) (Proc.devRef .tc main_call0_v7) (ix2 0 x) = _
  after_results_simp
  pointwise
/-- The base metric, one row of all heads' channels. -/
theorem entry_base (x : Fin 1024) : V3 m ρ c main_call0_v8 (ix2 0 x) = (kargs m c).base (hd x) (ch x) := by
  refine Eq.trans ?_ (congrFun (W2_args m ρ c main_arg7 (by decide)) (ix2 (hd x) (ch x)))
  show StableHlo.after hostOps1 (W2 m ρ c) (Proc.devRef .tc main_call0_v8) (ix2 0 x) = _
  after_results_simp
  pointwise

/-! ## The third launch's entry -/

/-- The query latents pass the second launch untouched. -/
theorem entry_q (h : Fin 16) (t : Fin 4096) (d : Fin 64) : V5 m ρ c main_call0_v1_0 (ix3 h t d) = q (kargs m c) h t d :=
  (congrFun ((W5_of m ρ c main_call0_v1_0 (by decide)).trans ((W4_of_ne m ρ c main_call0_v1_0 (by decide)).trans
    (W3_of m ρ c main_call0_v1_0 (by decide)))) _).trans (left_q m ρ c h t d)
/-- So do the value latents. -/
theorem entry_v (h : Fin 16) (t : Fin 4096) (d : Fin 64) : V5 m ρ c main_call0_v1_1 (ix3 h t d) = v (kargs m c) h t d :=
  (congrFun ((W5_of m ρ c main_call0_v1_1 (by decide)).trans ((W4_of_ne m ρ c main_call0_v1_1 (by decide)).trans
    (W3_of m ρ c main_call0_v1_1 (by decide)))) _).trans (left_v m ρ c h t d)
/-- The metric the second launch leaves, read head by channel, is the model's. -/
theorem entry_met (h : Fin 16) (d : Fin 64) : V5 m ρ c main_call0_v10 (ix2 h d) = met (kargs m c) h d := by
  have e : W4 m ρ c (Proc.devRef .tc main_call0_v9) (ix2 0 (fl h d)) = met (kargs m c) h d := by
    refine (congrFun (W4_arr m ρ c 7) _).trans ((metric_arr (V3 m ρ) c (fl h d)).trans ?_)
    refine (congrArg soft (flatZ_congr (s1' := fun i => ∑ t, q (kargs m c) (hd (i 1)) t (ch (i 1)))
      (s2' := fun i => ∑ j : Fin 512, q (kargs m c) (hd (i 1)) ⟨8 * j.val, by omega⟩ (ch (i 1)))
      (w1' := fun i => (kargs m c).w1 (i 1) (i 0)) (b1' := fun i => (kargs m c).b1 (i 1))
      (w2' := fun i => (kargs m c).w2 (i 1) (i 0)) (b2' := fun i => (kargs m c).b2 (i 1))
      (base' := fun i => (kargs m c).base (hd (i 1)) (ch (i 1)))
      (entry_s1 m ρ c) (entry_s2 m ρ c) (entry_w1 m ρ c) (entry_b1 m ρ c) (entry_w2 m ρ c) (entry_b2 m ρ c)
      (entry_base m ρ c) (fl h d))).trans ?_
    have hh : hd (fl h d) = h := Fin.ext (by show (h.val * 64 + d.val) / 64 = h.val; omega)
    have hc : ch (fl h d) = d := Fin.ext (by show (h.val * 64 + d.val) % 64 = d.val; omega)
    show soft ((kargs m c).base (hd (fl h d)) (ch (fl h d)) + _) = _
    rw [hh, hc]
    rfl
  refine Eq.trans ?_ e
  show StableHlo.after hostOps2 (W4 m ρ c) (Proc.devRef .tc main_call0_v10) (ix2 h d) = _
  after_results_simp
  pointwise

/-! ## The result -/

/-- On arguments that are numbers the program's result is the model's output. -/
theorem result_at (H : (kargs m c).Real) (t : Fin 4096) (e : Fin 1024) :
    W7 m ρ c (Proc.devRef .tc main_v0) (ix3 0 t e) = out (kargs m c) t e := by
  have r : W6 m ρ c (Proc.devRef .tc main_call0_v11) (ix2 t e) = out (kargs m c) t e :=
    (congrFun (W6_arr m ρ c 8) _).trans (result_arr (V5 m ρ) c H (entry_q m ρ c) (entry_v m ρ c) (entry_met m ρ c)
      (fun h d s => congrFun (W5_args m ρ c main_arg9 (by decide)) _)
      (fun h s d => congrFun (W5_args m ρ c main_arg10 (by decide)) _)
      (fun x e => congrFun (W5_args m ρ c main_arg8 (by decide)) _) t e)
  refine Eq.trans ?_ r
  show StableHlo.after hostOps3 (W6 m ρ c) (Proc.devRef .tc main_v0) (ix3 0 t e) = _
  after_results_simp
  pointwise

end Cert.Kern

end
-- ==== Proof.Sorted.lean ====
/-
  The stable sort behind a top-k, read as ranks: the position a stable descending sort gives an entry is the number
  of entries that go before it (greater, or equal and earlier), so a sum over the first 32 of 64 sorted entries is a
  sum over all 64 entries with an indicator.
-/
module

public import Idealize.ShloMosaic.PureOps
public import Idealize.ShloMosaic.Lib.SortFacts
public import Mathlib.Algebra.BigOperators.Fin
public import Mathlib.Data.EReal.Basic
public import Mathlib.Order.Interval.Finset.Fin

@[expose] public section

namespace Cert.Sorted

open Idealize.ShloMosaic

variable {n : Nat}

/-- Entry `a` goes before entry `b`: it is greater, or it is equal and stands at the smaller position. -/
def Ahead (y : Fin n → EReal) (a b : Fin n) : Prop := y b < y a ∨ (y a = y b ∧ a < b)

/-- Putting `a` into a list in which everything stands in order, all of it from behind `a`, keeps the order. -/
theorem insert_order (y : Fin n → EReal) (before : Fin n → Fin n → Bool)
    (hb : ∀ a b, before a b = true ↔ y b < y a) (a : Fin n) (l : List (Fin n)) (ha : ∀ b ∈ l, a < b)
    (hl : l.Pairwise (Ahead y)) : (insertBefore before a l).Pairwise (Ahead y) := by
  induction l with
  | nil => exact List.pairwise_singleton _ _
  | cons b l ih =>
    obtain ⟨h1, h2⟩ := List.pairwise_cons.mp hl
    unfold insertBefore
    split
    · rename_i hlt
      refine List.pairwise_cons.mpr ⟨fun x hx => ?_, ih (fun x hx => ha x (List.mem_cons_of_mem _ hx)) h2⟩
      rcases List.mem_cons.mp ((perm_insertBefore before a l).mem_iff.mp hx) with rfl | hx
      · exact Or.inl ((hb _ _).mp hlt)
      · exact h1 x hx
    · rename_i hnlt
      have hle : y b ≤ y a := not_lt.mp fun h => hnlt ((hb _ _).mpr h)
      refine List.pairwise_cons.mpr ⟨fun x hx => ?_, hl⟩
      have hxy : y x ≤ y a := by
        rcases List.mem_cons.mp hx with rfl | hx
        · exact hle
        · rcases h1 x hx with h | ⟨h, -⟩
          · exact (h.trans_le hle).le
          · exact h ▸ hle
      rcases lt_or_eq_of_le hxy with h | h
      · exact Or.inl h
      · exact Or.inr ⟨h.symm, ha x hx⟩

/-- The stable sort of an increasing list of positions leaves every entry ahead of the later ones. -/
theorem sort_order (y : Fin n → EReal) (before : Fin n → Fin n → Bool)
    (hb : ∀ a b, before a b = true ↔ y b < y a) (l : List (Fin n)) (hl : l.Pairwise (· < ·)) :
    (stableSort before l).Pairwise (Ahead y) := by
  induction l with
  | nil => exact List.Pairwise.nil
  | cons a l ih =>
    obtain ⟨h1, h2⟩ := List.pairwise_cons.mp hl
    unfold stableSort
    exact insert_order y before hb a _ (fun b hb' => h1 b ((perm_stableSort before l).mem_iff.mp hb')) (ih h2)

/-- Of two sorted positions the earlier one's entry is ahead. -/
theorem ahead_of_lt (y : Fin n → EReal) (before : Fin n → Fin n → Bool)
    (hb : ∀ a b, before a b = true ↔ y b < y a) (i j : Fin n) (hij : i < j) :
    Ahead y (sortedFrom before i) (sortedFrom before j) := by
  have hp : ∀ a b : Fin (sortPositions n before).length, a < b →
      Ahead y ((sortPositions n before).get a) ((sortPositions n before).get b) :=
    List.pairwise_iff_get.mp (sort_order y before hb (List.finRange n) (List.pairwise_lt_finRange n))
  unfold sortedFrom
  exact hp _ _ (by simp only [Fin.lt_def, Fin.val_cast]; exact hij)

/-- No two entries are each ahead of the other. -/
theorem ahead_asymm (y : Fin n → EReal) (a b : Fin n) (h : Ahead y a b) : ¬ Ahead y b a := by
  rcases h with h | ⟨h, h'⟩
  · rintro (k | ⟨k, -⟩)
    · exact lt_asymm h k
    · exact h.ne k
  · rintro (k | ⟨-, k⟩)
    · exact k.ne h
    · exact lt_asymm h' k

open Classical in
/-- The entry that the sort puts at position `k` has exactly `k` entries ahead of it. -/
theorem card_ahead (y : Fin n → EReal) (before : Fin n → Fin n → Bool)
    (hb : ∀ a b, before a b = true ↔ y b < y a) (k : Fin n) :
    (Finset.univ.filter fun b => Ahead y b (sortedFrom before k)).card = k.val := by
  have : (Finset.univ.filter fun b => Ahead y b (sortedFrom before k))
      = (Finset.Iio k).image (sortedFrom before) := by
    ext b
    simp only [Finset.mem_filter, Finset.mem_univ, true_and, Finset.mem_image, Finset.mem_Iio]
    constructor
    · intro h
      obtain ⟨j, rfl⟩ := sortedFrom_surjective before b
      refine ⟨j, ?_, rfl⟩
      rcases lt_trichotomy j k with hjk | rfl | hjk
      · exact hjk
      · exact absurd h (fun h' => ahead_asymm y _ _ h' h')
      · exact absurd h (ahead_asymm y _ _ (ahead_of_lt y before hb k j hjk))
    · rintro ⟨j, hj, rfl⟩
      exact ahead_of_lt y before hb j k hj
  rw [this, Finset.card_image_of_injective _ (sortedFrom_injective before), Fin.card_Iio]

open Classical in
/-- A sum over the first 32 of 64 sorted entries is the sum, over all 64 entries, of those with fewer than 32 ahead. -/
theorem sum_first (y : Fin 64 → EReal) (before : Fin 64 → Fin 64 → Bool)
    (hb : ∀ a b, before a b = true ↔ y b < y a) (G : Fin 64 → EReal) :
    ∑ k : Fin 32, G (sortedFrom before ⟨k.val, by omega⟩)
      = ∑ o : Fin 64, if (Finset.univ.filter fun b => Ahead y b o).card < 32 then G o else 0 := by
  have hbij : Function.Bijective (sortedFrom before) :=
    ⟨sortedFrom_injective before, sortedFrom_surjective before⟩
  rw [← Equiv.sum_comp (Equiv.ofBijective (sortedFrom before) hbij)]
  simp only [Equiv.ofBijective_apply, card_ahead y before hb]
  rw [show (∑ x : Fin 64, if x.val < 32 then G (sortedFrom before x) else 0)
      = ∑ x : Fin (32 + 32), if x.val < 32 then G (sortedFrom before x) else 0 from rfl, Fin.sum_univ_add]
  have h1 : ∀ k : Fin 32, (Fin.castAdd 32 k).val < 32 := fun k => k.isLt
  have h2 : ∀ k : Fin 32, ¬ (Fin.natAdd 32 k).val < 32 := fun k => by simp
  simp only [h1, h2, if_true, if_false, Finset.sum_const_zero, add_zero]
  rfl

end Cert.Sorted
-- ==== Proof.RefOps.lean ====
/-
  The reference's top-k and its three gathers read at an index.
-/
module

public import proofs.«01_k».proof.Proof.Gen.ReferenceIdeal
public import Idealize.ShloMosaic.Lib.Pointwise
public import proofs.«01_k».proof.Proof.Sorted

@[expose] public section

set_option maxRecDepth 16384

noncomputable section

namespace Cert.Ref

open Cert.ReferenceIdeal Cert.ReferenceIdeal.Gen Idealize.ShloMosaic Idealize.ShloMosaic.TcCoe Idealize.SL.Sem

/-- A small natural number read back from its signed word. -/
theorem word_nat (n : Nat) (h : n < 4096) : (BitVec.ofNat 32 n).toInt.toNat = n := by
  rw [BitVec.toInt_eq_toNat_cond, BitVec.toNat_ofNat]
  split <;> omega

/-- The gather of whole latents along the sequence, at an index. -/
theorem gather_seq {α : Type} (x : S16x4096x64.Idx → α) (idx : IVec S4096x64x1 32) (h : Fin 16) (t : Fin 4096)
    (o d : Fin 64) (p : Fin 4096) (hp : idx (ix3 t o 0) = BitVec.ofNat 32 p.val) :
    Host.gather gather_S16x4096x64_S4096x64x1_S16x4096x64x64_03_1_n_n_1_2_16164 x idx (ix4 h t o d)
      = x (ix3 h p d) := by
  have hv : (BitVec.ofNat 32 p.val).toInt.toNat = p.val := word_nat _ (by have := p.isLt; omega)
  have hsi : ∀ c, (gather_S16x4096x64_S4096x64x1_S16x4096x64x64_03_1_n_n_1_2_16164).siIdx (ix4 h t o d) c
      = ix3 t o 0 := by
    intro c
    funext b
    match b with
    | ⟨0, _⟩ => rfl
    | ⟨1, _⟩ => rfl
    | ⟨2, _⟩ => exact Fin.ext (by have := c.isLt; show c.val = 0; change c.val < 1 at this; omega)
  unfold Host.gather
  congr 1
  funext a
  refine Fin.ext ?_
  match a with
  | ⟨0, _⟩ =>
    show 0 + 0 + h.val = h.val
    omega
  | ⟨1, _⟩ =>
    show min (idx (GatherDims.siIdx _ (ix4 h t o d) _)).toInt.toNat 4095 + 0 + 0 = p.val
    rw [hsi, hp, hv]
    omega
  | ⟨2, _⟩ =>
    show 0 + 0 + d.val = d.val
    omega

/-- The gather of one chosen position out of the table of positions, at an index. -/
theorem gather_pos {α : Type} (x : S4096x64.Idx → α) (idx : IVec S16x4096x32x2 32) (h : Fin 16) (t : Fin 4096)
    (k : Fin 32) (p : Fin 4096) (o : Fin 64) (hp : idx (ix4 h t k 0) = BitVec.ofNat 32 p.val)
    (ho : idx (ix4 h t k 1) = BitVec.ofNat 32 o.val) :
    Host.gather gather_S4096x64_S16x4096x32x2_S16x4096x32_n_01_n_n_01_3_11 x idx (ix3 h t k)
      = x (ix2 p o) := by
  have hv : (BitVec.ofNat 32 p.val).toInt.toNat = p.val := word_nat _ (by have := p.isLt; omega)
  have hw : (BitVec.ofNat 32 o.val).toInt.toNat = o.val := word_nat _ (by have := o.isLt; omega)
  have hs0 : (gather_S4096x64_S16x4096x32x2_S16x4096x32_n_01_n_n_01_3_11).siIdx (ix3 h t k)
      ⟨0, by decide⟩ = ix4 h t k 0 := by
    funext b
    match b with
    | ⟨0, _⟩ => rfl
    | ⟨1, _⟩ => rfl
    | ⟨2, _⟩ => rfl
    | ⟨3, _⟩ => rfl
  have hs1 : (gather_S4096x64_S16x4096x32x2_S16x4096x32_n_01_n_n_01_3_11).siIdx (ix3 h t k)
      ⟨1, by decide⟩ = ix4 h t k 1 := by
    funext b
    match b with
    | ⟨0, _⟩ => rfl
    | ⟨1, _⟩ => rfl
    | ⟨2, _⟩ => rfl
    | ⟨3, _⟩ => rfl
  unfold Host.gather
  congr 1
  funext a
  refine Fin.ext ?_
  match a with
  | ⟨0, _⟩ =>
    show min (idx (GatherDims.siIdx _ (ix3 h t k) ⟨0, _⟩)).toInt.toNat 4095 + 0 + 0 = p.val
    rw [hs0, hp, hv]
    omega
  | ⟨1, _⟩ =>
    show min (idx (GatherDims.siIdx _ (ix3 h t k) ⟨1, _⟩)).toInt.toNat 63 + 0 + 0 = o.val
    rw [hs1, ho, hw]
    omega

/-- The gather of the chosen positions' values, head by head, at an index. -/
theorem gather_val {α : Type} (x : S16x4096x64.Idx → α) (idx : IVec S16x4096x32x2 32) (h : Fin 16) (t : Fin 4096)
    (k : Fin 32) (d : Fin 64) (g : Fin 16) (p : Fin 4096) (hg : idx (ix4 h t k 0) = BitVec.ofNat 32 g.val)
    (hp : idx (ix4 h t k 1) = BitVec.ofNat 32 p.val) :
    Host.gather gather_S16x4096x64_S16x4096x32x2_S16x4096x32x64_3_01_n_n_01_3_1164 x idx (ix4 h t k d)
      = x (ix3 g p d) := by
  have hv : (BitVec.ofNat 32 p.val).toInt.toNat = p.val := word_nat _ (by have := p.isLt; omega)
  have hw : (BitVec.ofNat 32 g.val).toInt.toNat = g.val := word_nat _ (by have := g.isLt; omega)
  have hs0 : (gather_S16x4096x64_S16x4096x32x2_S16x4096x32x64_3_01_n_n_01_3_1164).siIdx (ix4 h t k d)
      ⟨0, by decide⟩ = ix4 h t k 0 := by
    funext b
    match b with
    | ⟨0, _⟩ => rfl
    | ⟨1, _⟩ => rfl
    | ⟨2, _⟩ => rfl
    | ⟨3, _⟩ => rfl
  have hs1 : (gather_S16x4096x64_S16x4096x32x2_S16x4096x32x64_3_01_n_n_01_3_1164).siIdx (ix4 h t k d)
      ⟨1, by decide⟩ = ix4 h t k 1 := by
    funext b
    match b with
    | ⟨0, _⟩ => rfl
    | ⟨1, _⟩ => rfl
    | ⟨2, _⟩ => rfl
    | ⟨3, _⟩ => rfl
  unfold Host.gather
  congr 1
  funext a
  refine Fin.ext ?_
  match a with
  | ⟨0, _⟩ =>
    show min (idx (GatherDims.siIdx _ (ix4 h t k d) ⟨0, _⟩)).toInt.toNat 15 + 0 + 0 = g.val
    rw [hs0, hg, hw]
    omega
  | ⟨1, _⟩ =>
    show min (idx (GatherDims.siIdx _ (ix4 h t k d) ⟨1, _⟩)).toInt.toNat 4095 + 0 + 0 = p.val
    rw [hs1, hp, hv]
    omega
  | ⟨2, _⟩ =>
    show 0 + 0 + d.val = d.val
    omega

/-- "Goes before" for two offsets of a row, as the top-k compares them. -/
def before (y : S16x4096x64.Idx → EReal) (h : Fin 16) (t : Fin 4096) (a b : Fin 64) : Bool :=
  FloatOps.cmpfTotal (F := Ideal) (φ := .f32) .gt (y (ix3 h t a)) (y (ix3 h t b)) == 1#1

/-- One offset goes before another just when its entry is greater. -/
theorem before_iff (y : S16x4096x64.Idx → EReal) (h : Fin 16) (t : Fin 4096) (a b : Fin 64) :
    before y h t a b = true ↔ y (ix3 h t b) < y (ix3 h t a) := by
  unfold before
  rw [beq_iff_eq]
  show Ideal.cmpTotal .gt _ _ = 1#1 ↔ _
  unfold Ideal.cmpTotal Ideal.cmp
  simp only [CmpDirection.ordered]
  by_cases hlt : y (ix3 h t b) < y (ix3 h t a) <;> simp [hlt]

/-- The offset the stable sort of a row puts at rank `k`. -/
def pick (y : S16x4096x64.Idx → EReal) (h : Fin 16) (t : Fin 4096) (k : Fin 32) : Fin 64 :=
  sortedFrom (before y h t) ⟨k.val, by omega⟩

/-- The entry that a slice from the front reads. -/
theorem front_idx (h : Fin 16) (t : Fin 4096) (k : Fin 32) :
    (fun a => ⟨0 + (ix3 h t k (a.cast sliceFits_S16x4096x64_S16x4096x32.1.symm)).val,
      Nat.lt_of_lt_of_le (Nat.add_lt_add_left (ix3 h t k _).isLt _) (sliceFits_S16x4096x64_S16x4096x32.2 a)⟩
        : S16x4096x64.Idx) = ix3 h t (⟨k.val, by omega⟩ : Fin 64) := by
  funext a
  match a with
  | ⟨0, _⟩ => exact Fin.ext (by show 0 + h.val = h.val; omega)
  | ⟨1, _⟩ => exact Fin.ext (by show 0 + t.val = t.val; omega)
  | ⟨2, _⟩ => exact Fin.ext (by show 0 + k.val = k.val; omega)

/-- A row's index with its offset replaced. -/
theorem along_eq (h : Fin 16) (t : Fin 4096) (o a : Fin 64) :
    Shape.Idx.along (s := S16x4096x64) (ix3 h t o) (2 : Fin 3) a = ix3 h t a := by
  funext b
  match b with
  | ⟨0, _⟩ => rfl
  | ⟨1, _⟩ => rfl
  | ⟨2, _⟩ => rfl

/-- The sort of a row leaves at rank `k` the offset `pick` names. -/
theorem sorted_row (y : S16x4096x64.Idx → EReal) (h : Fin 16) (t : Fin 4096) (k : Fin 32) (j : S16x4096x64.Idx)
    (hj : j = ix3 h t (⟨k.val, by omega⟩ : Fin 64)) :
    (sortedFrom (fun a b : Fin 64 => FloatOps.cmpfTotal (F := Ideal) (φ := .f32) .gt
      (y (Shape.Idx.along (s := S16x4096x64) j (2 : Fin 3) a))
      (y (Shape.Idx.along (s := S16x4096x64) j (2 : Fin 3) b)) == 1#1) (j (2 : Fin 3)) : Fin 64) = pick y h t k := by
  subst hj
  have e : ∀ a : Fin 64, y (Shape.Idx.along (s := S16x4096x64) (ix3 h t (⟨k.val, by omega⟩ : Fin 64)) (2 : Fin 3) a)
      = y (ix3 h t a) := fun a => congrArg y (along_eq h t _ a)
  have hf : (fun a b : Fin 64 => FloatOps.cmpfTotal (F := Ideal) (φ := .f32) .gt
      (y (Shape.Idx.along (s := S16x4096x64) (ix3 h t (⟨k.val, by omega⟩ : Fin 64)) (2 : Fin 3) a))
      (y (Shape.Idx.along (s := S16x4096x64) (ix3 h t (⟨k.val, by omega⟩ : Fin 64)) (2 : Fin 3) b)) == 1#1)
      = before y h t := by
    funext a b
    exact congrArg₂ (fun u v => FloatOps.cmpfTotal (F := Ideal) (φ := .f32) .gt u v == 1#1) (e a) (e b)
  exact congrArg (fun f => sortedFrom f (⟨k.val, by omega⟩ : Fin 64)) hf

/-- The top-k's values at an index. -/
theorem topk_val (y : S16x4096x64.Idx → EReal) (h : Fin 16) (t : Fin 4096) (k : Fin 32) :
    (Host.topK S16x4096x32 2 (FloatOps.cmpfTotal (F := Ideal) (φ := .f32) .gt) y
      sliceFits_S16x4096x64_S16x4096x32).1 (ix3 h t k) = y (ix3 h t (pick y h t k)) := by
  show y (Shape.Idx.along (s := S16x4096x64) (fun a => ⟨0 + (ix3 h t k (a.cast _)).val, _⟩) (2 : Fin 3)
    (sortedFrom (fun a b => FloatOps.cmpfTotal (F := Ideal) (φ := .f32) .gt
      (y (Shape.Idx.along (s := S16x4096x64) (fun a => ⟨0 + (ix3 h t k (a.cast _)).val, _⟩) (2 : Fin 3) a))
      (y (Shape.Idx.along (s := S16x4096x64) (fun a => ⟨0 + (ix3 h t k (a.cast _)).val, _⟩) (2 : Fin 3) b)) == 1#1)
      ((fun a => ⟨0 + (ix3 h t k (a.cast _)).val, _⟩ : S16x4096x64.Idx) (2 : Fin 3)))) = _
  refine congrArg y ?_
  refine (congrArg (Shape.Idx.along (s := S16x4096x64) _ (2 : Fin 3)) (sorted_row y h t k _ (front_idx h t k))).trans ?_
  rw [front_idx]
  exact along_eq h t _ _

/-- The top-k's positions at an index. -/
theorem topk_idx (y : S16x4096x64.Idx → EReal) (h : Fin 16) (t : Fin 4096) (k : Fin 32) :
    (Host.topK S16x4096x32 2 (FloatOps.cmpfTotal (F := Ideal) (φ := .f32) .gt) y
      sliceFits_S16x4096x64_S16x4096x32).2 (ix3 h t k) = BitVec.ofNat 32 (pick y h t k).val := by
  show BitVec.ofNat 32 (Shape.Idx.along (s := S16x4096x64) (fun a => ⟨0 + (ix3 h t k (a.cast _)).val, _⟩) (2 : Fin 3)
    (sortedFrom (fun a b => FloatOps.cmpfTotal (F := Ideal) (φ := .f32) .gt
      (y (Shape.Idx.along (s := S16x4096x64) (fun a => ⟨0 + (ix3 h t k (a.cast _)).val, _⟩) (2 : Fin 3) a))
      (y (Shape.Idx.along (s := S16x4096x64) (fun a => ⟨0 + (ix3 h t k (a.cast _)).val, _⟩) (2 : Fin 3) b)) == 1#1)
      ((fun a => ⟨0 + (ix3 h t k (a.cast _)).val, _⟩ : S16x4096x64.Idx) (2 : Fin 3))) (2 : Fin 3)).val = _
  refine congrArg (BitVec.ofNat 32) ?_
  have hs : ∀ (j : S16x4096x64.Idx) (v : Fin 64), Shape.Idx.along (s := S16x4096x64) j (2 : Fin 3) v (2 : Fin 3) = v :=
    fun j v => by unfold Shape.Idx.along; exact Function.update_self (β := fun d => Fin (S16x4096x64.size d)) (2 : Fin 3) v j
  exact congrArg Fin.val ((hs _ _).trans (sorted_row y h t k _ (front_idx h t k)))

end Cert.Ref
-- ==== Proof.RefVal.lean ====
/-
  The reference's result at an index.
-/
module

public import proofs.«01_k».proof.Proof.Gen.ReferenceIdeal.Run
public import proofs.«01_k».proof.Proof.RefOps
public import Idealize.ShloMosaic.Lib.WordCmp
public import Idealize.ShloMosaic.Lib.WordArith
public import Idealize.ShloMosaic.Lib.Tactic.WordOmega
public import proofs.«01_k».proof.Proof.Model

@[expose] public section

set_option maxRecDepth 16384

noncomputable section

namespace Cert.Ref

open Cert.ReferenceIdeal Cert.ReferenceIdeal.Gen Cert.ReferenceIdeal.Value Idealize.ShloMosaic Idealize.ShloMosaic.TcCoe Idealize.SL.Sem
open Idealize.ShloMosaic.StableHlo Cert.Model Cert.Sorted Cert.Ranks

/-- The reference's arguments' entries. -/
def args (V : Valuation τ sig (Elt Ideal)) : Args where
  x t k := V (Proc.devRef .tc main_arg0) (ix3 0 t k)
  wq h k d := V (Proc.devRef .tc main_arg1) (ix3 h k d)
  wv h k d := V (Proc.devRef .tc main_arg2) (ix3 h k d)
  w1 j x := V (Proc.devRef .tc main_arg3) (ix2 j x)
  b1 j := V (Proc.devRef .tc main_arg4) (ix1 j)
  w2 x j := V (Proc.devRef .tc main_arg5) (ix2 x j)
  b2 x := V (Proc.devRef .tc main_arg6) (ix1 x)
  base h d := V (Proc.devRef .tc main_arg7) (ix2 h d)
  dec x e := V (Proc.devRef .tc main_arg8) (ix2 x e)
  hu h d r := V (Proc.devRef .tc main_arg9) (ix3 h d r)
  hv h r d := V (Proc.devRef .tc main_arg10) (ix3 h r d)

variable (V : Valuation τ sig (Elt Ideal))

/-- The reference's query latents. -/
theorem v4_at (h : Fin 16) (t : Fin 4096) (d : Fin 64) : res_main_v4 V (ix3 h t d) = q (args V) h t d := by
  pointwise [res_main_v4]
  exact congrArg (fun s : EReal => max s 0) (Finset.sum_congr rfl fun k _ => mul_comm (G := EReal) _ _)

/-- The reference's value latents. -/
theorem vals_at (h : Fin 16) (t : Fin 4096) (d : Fin 64) :
    (maximumf (F := Ideal) (φ := .f32) (transpose S16x4096x64 [0, 2, 1] (Host.dotGeneral (F := Ideal) (φ₁ := .f32) (φ₂ := .f32) dot_S16x1024x64_S4096x1024_S16x64x4096_1_1_02_0_n_n none (V (Proc.devRef .tc main_arg2)) (shapeCast _ (V (Proc.devRef .tc main_arg0)) shapeCasts_S1x4096x1024_S4096x1024)) transposes_S16x64x4096_S16x4096x64_0_2_1) (broadcastInDim S16x4096x64 ![] bcast_S_S16x4096x64 (constant (F := Ideal) S_ .f32 0x00000000#32))) (ix3 h t d) = v (args V) h t d := by
  pointwise
  exact congrArg (fun s : EReal => max s 0) (Finset.sum_congr rfl fun k _ => mul_comm (G := EReal) _ _)

/-- The reference's first layer before its activation. -/
theorem v24_at (j : Fin 512) : res_main_v24 V (ix2 0 j) = z1 (args V) j := by
  pointwise [res_main_v24]
  simp only [v4_at]
  refine congrArg (fun s : EReal => s + _) (Finset.sum_congr rfl fun x _ => congrArg (fun s : EReal => s * _) ?_)
  exact congrArg (fun s : EReal => Ideal.div (∑ t, q (args V) (hd x) t (ch x)) (lit 0x45800000#32) + s) (mul_comm (G := EReal) _ _)

/-- The reference's metric before its softplus. -/
theorem v42_at (h : Fin 16) (d : Fin 64) : res_main_v42 V (ix2 h d) = z (args V) h d := by
  pointwise [res_main_v42]
  simp only [v24_at]
  rfl

/-- A word that is no negative number is left as it is by the wrap of negative ones. -/
theorem wrap_word (n : ℕ) (hn : n < 4096) (w : BitVec 32) :
    Scalar.select (IntOp.cmpi .slt (BitVec.ofNat 32 n) 0#32) (IntOp.addi (BitVec.ofNat 32 n) w) (BitVec.ofNat 32 n)
      = BitVec.ofNat 32 n := by
  rw [show IntOp.cmpi .slt (BitVec.ofNat 32 n) 0#32 = 0#1 by
    rw [WordCmp.cmpi_slt_eq, WordArith.toInt_ofNat_small n (by omega), decide_eq_false (by rw [show (0#32 : BitVec 32).toInt = 0 from rfl]; omega)]
    rfl]
  rfl

/-- The position an offset back, as the reference's word. -/
theorem v51_at (t : Fin 4096) (o : Fin 64) : res_main_v51 V (ix2 t o) = BitVec.ofNat 32 (back t o.val).val := by
  pointwise [res_main_v51, res_main_v44]
  have h := t.isLt
  have h' := o.isLt
  show IntOp.minsi 4095#32 (IntOp.maxsi 0#32 (IntOp.subi (BitVec.ofNat 32 t.val) (BitVec.ofNat 32 o.val))) = BitVec.ofNat 32 (t.val - o.val)
  have e : (IntOp.subi (BitVec.ofNat 32 t.val) (BitVec.ofNat 32 o.val)).toInt = (t.val : ℤ) - o.val := by
    show (BitVec.ofNat 32 t.val - BitVec.ofNat 32 o.val).toInt = _
    rw [WordArith.toInt_sub_of_bounds] <;> rw [WordArith.toInt_ofNat_small _ (by omega), WordArith.toInt_ofNat_small _ (by omega)] <;> omega
  apply BitVec.eq_of_toInt_eq
  rw [WordArith.toInt_ofNat_small _ (by omega)]
  unfold IntOp.minsi IntOp.maxsi
  simp only [BitVec.slt_iff_toInt_lt, e]
  split <;> split <;> simp_all <;> omega

/-- The reference's difference of latents. -/
theorem v64_at (h : Fin 16) (t : Fin 4096) (o d : Fin 64) :
    res_main_v64 V (ix4 h t o d) = q (args V) h (back t o.val) d - q (args V) h t d := by
  pointwise [res_main_v64]
  rw [gather_seq _ _ h t o d (back t o.val)]
  · simp only [v4_at]
  · pointwise
    simp only [v51_at]
    exact wrap_word _ (back t o.val).isLt _

/-- The reference's negated distances. -/
theorem v75_at (h : Fin 16) (t : Fin 4096) (o : Fin 64) :
    res_main_v75 V (ix3 h t o) = -near (args V) h t o.val := by
  pointwise [res_main_v75, res_main_v44, res_main_call0_v3, res_main_call0_cst]
  simp only [v51_at, v64_at, v42_at, ne_eq, not_true_eq_false, if_false]
  rw [show IntOp.cmpi .sle (BitVec.ofNat 32 (t.val - o.val)) (BitVec.ofNat 32 t.val) = 1#1 by
    rw [WordCmp.cmpi_sle_eq, WordArith.toInt_ofNat_small _ (by omega), WordArith.toInt_ofNat_small _ (by omega)]
    simp]
  rfl

/-- The chosen positions, as words. -/
theorem v93_at (h : Fin 16) (t : Fin 4096) (k : Fin 32) :
    res_main_v93 V (ix3 h t k) = BitVec.ofNat 32 (back t (pick (res_main_v75 V) h t k).val).val := by
  unfold res_main_v93
  rw [gather_pos _ _ h t k t (pick (res_main_v75 V) h t k)]
  · exact v51_at V _ _
  · pointwise [res_main_v78, res_main_v44]
    exact wrap_word _ t.isLt _
  · pointwise [res_main_indices]
    rw [topk_idx]
    exact wrap_word _ (by have := (pick (res_main_v75 V) h t k).isLt; omega) _

/-- The chosen influences before normalizing. -/
theorem v94_at (h : Fin 16) (t : Fin 4096) (k : Fin 32) :
    res_main_v94 V (ix3 h t k) = Ideal.exp (-near (args V) h t (pick (res_main_v75 V) h t k).val) := by
  unfold res_main_v94
  pointwise
  rw [topk_val, v75_at]

/-- The norms. -/
theorem v122_at (h : Fin 16) (t : Fin 4096) : res_main_v122 V (ix3 h t 0) = nrm (args V) h t := by
  pointwise [res_main_v122]
  simp only [v4_at]
  rfl

open Classical in
/-- The offsets ahead of one, by the reference's order. -/
theorem ahead_card (h : Fin 16) (t : Fin 4096) (o : Fin 64) :
    (Finset.univ.filter fun b => Ahead (fun o => res_main_v75 V (ix3 h t o)) b o).card
      = ahead (near (args V) h t) o.val := by
  unfold ahead
  simp only [Finset.card_filter]
  rw [Finset.sum_range]
  refine Finset.sum_congr rfl fun b _ => ?_
  refine if_congr ?_ rfl rfl
  unfold Ahead
  beta_reduce
  rw [v75_at, v75_at, EReal.neg_lt_neg_iff, neg_inj, Fin.lt_def]

/-- A sum over the chosen offsets is one over all of them, masked. -/
theorem sum_picked (h : Fin 16) (t : Fin 4096) (G : Fin 64 → EReal) :
    ∑ k : Fin 32, G (pick (res_main_v75 V) h t k) = ∑ o : Fin 64, if ahead (near (args V) h t) o.val < 32 then G o else 0 := by
  classical
  refine (sum_first (fun o => res_main_v75 V (ix3 h t o)) (before (res_main_v75 V) h t)
    (before_iff (res_main_v75 V) h t) G).trans ?_
  refine Finset.sum_congr rfl fun o _ => ?_
  refine if_congr ?_ rfl rfl
  rw [← ahead_card]

/-- The chosen values. -/
def picked : FVec Ideal S16x4096x32x64 .f32 :=
  Host.gather gather_S16x4096x64_S16x4096x32x2_S16x4096x32x64_3_01_n_n_01_3_1164 (maximumf (transpose S16x4096x64 [0, 2, 1] (Host.dotGeneral (F := Ideal) (φ₁ := .f32) (φ₂ := .f32) dot_S16x1024x64_S4096x1024_S16x64x4096_1_1_02_0_n_n none (V (Proc.devRef .tc main_arg2)) (shapeCast _ (V (Proc.devRef .tc main_arg0)) shapeCasts_S1x4096x1024_S4096x1024)) transposes_S16x64x4096_S16x4096x64_0_2_1) (broadcastInDim S16x4096x64 ![] bcast_S_S16x4096x64 (constant S_ .f32 0x00000000#32))) (concatenate S16x4096x32x2 3 [⟨S16x4096x32x1, (broadcastInDim S16x4096x32x1 ![0, 1, 2] bcast_S16x4096x32_S16x4096x32x1_0_1_2 (broadcastInDim S16x4096x32 ![0, 1, 2] bcast_S16x1x1_S16x4096x32_0_1_2 (select (cmpi .slt (res_main_v77 V) (broadcastInDim S16x1x1 ![] bcast_S_S16x1x1 (constantI S_ 32 0#32))) (addi (res_main_v77 V) (broadcastInDim S16x1x1 ![] bcast_S_S16x1x1 (constantI S_ 32 16#32))) (res_main_v77 V))))⟩, ⟨S16x4096x32x1, (broadcastInDim S16x4096x32x1 ![0, 1, 2] bcast_S16x4096x32_S16x4096x32x1_0_1_2 (select (cmpi .slt (res_main_v93 V) (broadcastInDim S16x4096x32 ![] bcast_S_S16x4096x32 (constantI S_ 32 0#32))) (addi (res_main_v93 V) (broadcastInDim S16x4096x32 ![] bcast_S_S16x4096x32 (constantI S_ 32 4096#32))) (res_main_v93 V)))⟩] concatenates_S16x4096x32x1_S16x4096x32x1_S16x4096x32x2_d3)

/-- The values gathered for a selected neighbour are those at its position. -/
theorem picked_at (h : Fin 16) (t : Fin 4096) (k : Fin 32) (d : Fin 64) :
    picked V (ix4 h t k d) = v (args V) h (back t (pick (res_main_v75 V) h t k).val) d := by
  unfold picked
  rw [gather_val _ _ h t k d h (back t (pick (res_main_v75 V) h t k).val)]
  · exact vals_at V _ _ _
  · pointwise [res_main_v77]
    exact wrap_word _ (by omega) _
  · pointwise
    simp only [v93_at]
    exact wrap_word _ (back t _).isLt _

/-- The attended values. -/
def attended : FVec Ideal S16x4096x64 .f32 :=
  Host.dotGeneral (F := Ideal) (φ₁ := .f32) (φ₂ := .f32) dot_S16x4096x32_S16x4096x32x64_S16x4096x64_2_2_n_3_01_01 none (Host.divf (res_main_v94 V) (broadcastInDim S16x4096x32 ![0, 1, 2] bcast_S16x4096x1_S16x4096x32_0_1_2 (addf (broadcastInDim S16x4096x1 ![0, 1] bcast_S16x4096_S16x4096x1_0_1 (Host.reduceAdd (res_main_v94 V) (constant S_ .f32 0x00000000#32) reducesTo_S16x4096x32_S16x4096_d2 h_S_)) (broadcastInDim S16x4096x1 ![] bcast_S_S16x4096x1 (constant S_ .f32 0x322BCC77#32))))) (picked V)

/-- The reference's attended values are the model's. -/
theorem attended_at (h : Fin 16) (t : Fin 4096) (d : Fin 64) : attended V (ix3 h t d) = ctx (args V) h t d := by
  pointwise [attended]
  simp only [picked_at, v94_at]
  have hS : ∑ k : Fin 32, Ideal.exp (-near (args V) h t (pick (res_main_v75 V) h t k).val) = ∑ o : Fin 64, infl (args V) h t o.val :=
    sum_picked V h t fun o => Ideal.exp (-near (args V) h t o.val)
  rw [hS]
  exact sum_picked V h t fun o => Ideal.div (Ideal.exp (-near (args V) h t o.val)) (tot (args V) h t)
    * v (args V) h (back t o.val) d

/-- The Hebbian term. -/
def hebb : FVec Ideal S16x4096x64 .f32 :=
  Host.dotGeneral (F := Ideal) (φ₁ := .f32) (φ₂ := .f32) dot_S16x4096x64_S16x64x64_S16x4096x64_2_1_1_2_0_0 none (Host.divf (res_main_v4 V) (broadcastInDim S16x4096x64 ![0, 1, 2] bcast_S16x4096x1_S16x4096x64_0_1_2 (maximumf (res_main_v122 V) (broadcastInDim S16x4096x1 ![] bcast_S_S16x4096x1 (constant S_ .f32 0x2B8CBCCC#32))))) (Host.dotGeneral (F := Ideal) (φ₁ := .f32) (φ₂ := .f32) dot_S16x64x16_S16x16x64_S16x64x64_2_1_1_2_0_0 none (V (Proc.devRef .tc main_arg9)) (V (Proc.devRef .tc main_arg10)))

/-- So is its Hebbian context. -/
theorem hebb_at (h : Fin 16) (t : Fin 4096) (d : Fin 64) : hebb V (ix3 h t d) = hctx (args V) h t d := by
  pointwise [hebb]
  simp only [v4_at, v122_at]
  rfl

/-- The gate and its tenth. -/
def gated : FVec Ideal S16x4096x1 .f32 :=
  mulf (uitofp .f32 (cmpf .ogt (res_main_v122 V) (broadcastInDim S16x4096x1 ![] bcast_S_S16x4096x1 (constant S_ .f32 0x3E4CCCCD#32)))) (broadcastInDim S16x4096x1 ![] bcast_S_S16x4096x1 (constant S_ .f32 0x3DCCCCCD#32))

/-- The gate with its factor of a tenth. -/
theorem gated_at (h : Fin 16) (t : Fin 4096) : gated V (ix3 h t 0) = gate (args V) h t * lit 0x3DCCCCCD#32 := by
  pointwise [gated]
  simp only [v122_at]
  refine congrArg (fun s : EReal => s * _) ?_
  unfold gate
  by_cases hp : Ideal.ofBits .f32 1045220557#32 < nrm (args V) h t
  · rw [decide_eq_true hp, if_pos hp]
    show ((((1#1 : BitVec 1).toNat : ℝ)) : EReal) = 1
    simp
  · rw [decide_eq_false hp, if_neg hp]
    show ((((0#1 : BitVec 1).toNat : ℝ)) : EReal) = 0
    simp

/-- The reference's result. -/
def result : FVec Ideal S1x4096x1024 .f32 :=
  broadcastInDim S1x4096x1024 ![1, 2] bcast_S4096x1024_S1x4096x1024_1_2 (Host.dotGeneral (F := Ideal) (φ₁ := .f32) (φ₂ := .f32) dot_S4096x1024_S1024x1024_S4096x1024_1_0_0_1_n_n none (shapeCast _ (transpose S4096x16x64 [1, 0, 2] (mulf (res_main_v4 V) (addf (attended V) (mulf (broadcastInDim S16x4096x64 ![0, 1, 2] bcast_S16x4096x1_S16x4096x64_0_1_2 (gated V)) (hebb V)))) transposes_S16x4096x64_S4096x16x64_1_0_2) shapeCasts_S4096x16x64_S4096x1024) (V (Proc.devRef .tc main_arg8)))

/-- The reference's result is the model's output. -/
theorem result_at (t : Fin 4096) (e : Fin 1024) : result V (ix3 0 t e) = out (args V) t e := by
  pointwise [result]
  simp only [v4_at, attended_at, hebb_at, gated_at]
  rfl

/-- The reference ends with its result and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v141) = result (launchContents m c) :=
  (θ_run defs _ _).mono (fun _ h c => (h c).1) (Cert.ReferenceIdeal.Value.run (F := Ideal) m ρ)

end Cert.Ref
-- ==== Proof.Algebraic.lean ====
/-
  The value claim: on finite arguments the kernel's idealization and the reference end with the same result, each the
  model's output at the arguments.
-/
module

public import proofs.«01_k».proof.Defs
public import proofs.«01_k».proof.Proof.Entry
public import proofs.«01_k».proof.Proof.RefVal

@[expose] public section

set_option maxRecDepth 16384

noncomputable section

open Idealize.ShloMosaic Idealize.ShloMosaic.TcCoe Idealize.SL.Sem

namespace Cert.Proof

open Cert.Model

/-- The precondition's shape relations hold. -/
theorem finite_facts : Cert.Pre_finite_arguments.Facts :=
  ⟨by decide, by decide, by decide, by decide, by decide, by decide, by decide⟩

/-- An extended real whose magnitude is below infinity is a real number. -/
theorem isReal_of_abs_lt {a : EReal}
    (h : FloatOps.cmpf (F := Ideal) (φ := .f32) .olt (FloatOps.absf (F := Ideal) (φ := .f32) a) (lit 0x7F800000#32) = 1#1) :
    IsReal a := by
  have top : lit 0x7F800000#32 = (⊤ : EReal) := by
    simp [lit, Ideal.ofBits, Ideal.ieee]
  induction a using EReal.rec with
  | bot => exfalso; revert h; rw [top]; simp [FloatOps.cmpf, FloatOps.absf, Ideal.cmp]
  | coe r => exact ⟨r, rfl⟩
  | top => exfalso; revert h; rw [top]; simp [FloatOps.cmpf, FloatOps.absf, Ideal.cmp]

/-- Under the precondition the arguments that reach the distances are real numbers. -/
theorem kargs_real (m : (ℓ : Loc Cert.KernelIdeal.nD Cert.KernelIdeal.τ Cert.KernelIdeal.sig) → Buf (Elt Ideal) ℓ)
    (hpre : Cert.Pre_KernelIdeal_finite_arguments (hPre_finite_arguments := finite_facts) m) (c : Dev Cert.KernelIdeal.nD) :
    (Cert.Kern.kargs m c).Real := by
  obtain ⟨h0, h1, h2, h3, h4, h5, h6⟩ := hpre c
  exact {
    x := fun t k => isReal_of_abs_lt (congrFun h0 (ix3 0 t k))
    wq := fun h k d => isReal_of_abs_lt (congrFun h1 (ix3 h k d))
    w1 := fun j x => isReal_of_abs_lt (congrFun h2 (ix2 j x))
    b1 := fun j => isReal_of_abs_lt (congrFun h3 (ix1 j))
    w2 := fun x j => isReal_of_abs_lt (congrFun h4 (ix2 x j))
    b2 := fun x => isReal_of_abs_lt (congrFun h5 (ix1 x))
    base := fun h d => isReal_of_abs_lt (congrFun h6 (ix2 h d)) }

/-- The two programs' results are equal, entry by entry, as extended reals. -/
theorem algebraic : Cert.algebraic_KernelIdeal_ReferenceIdeal_pre_finite_arguments
    (hPre_finite_arguments := finite_facts) := by
  intro m ρ m' ρ' hpre hagree
  refine ⟨fun c => (fun i : Cert.KernelIdeal.S1x4096x1024.Idx => out (Cert.Kern.kargs m c) (i 1) (i 2)), ?_, ?_⟩
  · refine (θ_run Cert.KernelIdeal.defs _ _).mono (fun r h c => ⟨?_, ?_⟩) (Cert.KernelIdeal.Frame.run m ρ)
    · refine (h.1 c _ (Cert.KernelIdeal.Frame.mem_uc Cert.KernelIdeal.main_v0 (by decide))).trans (funext fun i => ?_)
      obtain ⟨a, t, e, rfl⟩ : ∃ a t e, i = ix3 a t e := ⟨_, _, _, eq_ix3 i⟩
      obtain rfl : a = 0 := Subsingleton.elim _ _
      exact Cert.Kern.result_at m ρ c (kargs_real m hpre c) t e
    · exact ⟨(h.1 c _ (Cert.KernelIdeal.Frame.mem_uc Cert.KernelIdeal.main_arg0 (by decide))).trans (Cert.KernelIdeal.Frame.W7_main_arg0 m ρ c),
        (h.1 c _ (Cert.KernelIdeal.Frame.mem_uc Cert.KernelIdeal.main_arg1 (by decide))).trans (Cert.KernelIdeal.Frame.W7_main_arg1 m ρ c),
        (h.1 c _ (Cert.KernelIdeal.Frame.mem_uc Cert.KernelIdeal.main_arg2 (by decide))).trans (Cert.KernelIdeal.Frame.W7_main_arg2 m ρ c),
        (h.1 c _ (Cert.KernelIdeal.Frame.mem_uc Cert.KernelIdeal.main_arg3 (by decide))).trans (Cert.KernelIdeal.Frame.W7_main_arg3 m ρ c),
        (h.1 c _ (Cert.KernelIdeal.Frame.mem_uc Cert.KernelIdeal.main_arg4 (by decide))).trans (Cert.KernelIdeal.Frame.W7_main_arg4 m ρ c),
        (h.1 c _ (Cert.KernelIdeal.Frame.mem_uc Cert.KernelIdeal.main_arg5 (by decide))).trans (Cert.KernelIdeal.Frame.W7_main_arg5 m ρ c),
        (h.1 c _ (Cert.KernelIdeal.Frame.mem_uc Cert.KernelIdeal.main_arg6 (by decide))).trans (Cert.KernelIdeal.Frame.W7_main_arg6 m ρ c),
        (h.1 c _ (Cert.KernelIdeal.Frame.mem_uc Cert.KernelIdeal.main_arg7 (by decide))).trans (Cert.KernelIdeal.Frame.W7_main_arg7 m ρ c),
        (h.1 c _ (Cert.KernelIdeal.Frame.mem_uc Cert.KernelIdeal.main_arg8 (by decide))).trans (Cert.KernelIdeal.Frame.W7_main_arg8 m ρ c),
        (h.1 c _ (Cert.KernelIdeal.Frame.mem_uc Cert.KernelIdeal.main_arg9 (by decide))).trans (Cert.KernelIdeal.Frame.W7_main_arg9 m ρ c),
        (h.1 c _ (Cert.KernelIdeal.Frame.mem_uc Cert.KernelIdeal.main_arg10 (by decide))).trans (Cert.KernelIdeal.Frame.W7_main_arg10 m ρ c)⟩
  · refine (θ_run Cert.ReferenceIdeal.defs _ _).mono (fun _ h c => ⟨(h c).1.trans ?_, (h c).2⟩)
      (Cert.ReferenceIdeal.Value.run (F := Ideal) m' ρ')
    have same : Cert.Ref.args (StableHlo.launchContents m' c) = Cert.Kern.kargs m c := by
      obtain ⟨a0, a1, a2, a3, a4, a5, a6, a7, a8, a9, a10⟩ := hagree c
      unfold Cert.Ref.args Cert.Kern.kargs
      rw [Args.mk.injEq]
      exact ⟨funext₂ fun _ _ => congrFun a0 _, funext₃ fun _ _ _ => congrFun a1 _, funext₃ fun _ _ _ => congrFun a2 _,
        funext₂ fun _ _ => congrFun a3 _, funext fun _ => congrFun a4 _, funext₂ fun _ _ => congrFun a5 _,
        funext fun _ => congrFun a6 _, funext₂ fun _ _ => congrFun a7 _, funext₂ fun _ _ => congrFun a8 _,
        funext₃ fun _ _ _ => congrFun a9 _, funext₃ fun _ _ _ => congrFun a10 _⟩
    refine funext fun i => ?_
    obtain ⟨a, t, e, rfl⟩ : ∃ a t e, i = ix3 a t e := ⟨_, _, _, eq_ix3 i⟩
    obtain rfl : a = 0 := Subsingleton.elim _ _
    refine (Cert.Ref.result_at (StableHlo.launchContents m' c) t e).trans ?_
    rw [same]; rfl

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, finite_facts,
    frame_kernel, frame_kernel_ideal, fun m ρ _ => frame_kernel_ideal m ρ trivial,
    frame_reference, fun m ρ _ => frame_reference m ρ trivial, preserves, algebraic⟩

end Cert.Proof

end
